-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "qscale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v74) = v1 c
          ∧ r.2.mem ((c.tc : Thread Cert.Reference3Ideal.nD Cert.Reference3Ideal.τ).loc Cert.Reference3Ideal.main_v75) = v2 c
          ∧ r.2.mem ((c.tc : Thread Cert.Reference3Ideal.nD Cert.Reference3Ideal.τ).loc Cert.Reference3Ideal.main_v76) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x16x64x2048 : Shape := ⟨4, ![8, 16, 64, 2048]⟩
abbrev S8x16x64x2064 : Shape := ⟨4, ![8, 16, 64, 2064]⟩
abbrev S8x16x2176 : Shape := ⟨3, ![8, 16, 2176]⟩
abbrev S_ : Shape := ⟨0, ![]⟩
abbrev S8x16x2064 : Shape := ⟨3, ![8, 16, 2064]⟩

class Facts : Prop where
  bitsLt_bf16_f32 : FTy.bits .bf16 < FTy.bits .f32
  bcast_S_S8x16x64x2048 : S_.BroadcastsInDim S8x16x64x2048 (![] : Fin 0 → Fin S8x16x64x2048.rank)
  bcast_S_S8x16x64x2064 : S_.BroadcastsInDim S8x16x64x2064 (![] : Fin 0 → Fin S8x16x64x2064.rank)
  slices_S8x16x2176_S8x16x2064_0_0_0 : S8x16x2176.Slices ![0, 0, 0] S8x16x2064
  bcast_S_S8x16x2064 : S_.BroadcastsInDim S8x16x2064 (![] : Fin 0 → Fin S8x16x2064.rank)

variable [Facts]

def fn {F : FTy → Type} [FloatOps F] (main_arg0 : FVec F S8x16x64x2048 .bf16) (main_arg1 : FVec F S8x16x64x2064 .f32) (main_arg2 : FVec F S8x16x64x2064 .f32) (main_arg3 : FVec F S8x16x2176 .f32) : IVec S8x16x64x2048 1 × IVec S8x16x64x2064 1 × IVec S8x16x2064 1 :=
  let main_v0 : FVec F S8x16x64x2048 .f32 := (extf .f32 · bitsLt_bf16_f32) main_arg0
  let main_v1 : FVec F S8x16x64x2048 .f32 := Host.absf main_v0
  let main_cst : FVec F S_ .f32 := constant S_ .f32 0x7F800000#32
  let main_v2 : FVec F S8x16x64x2048 .f32 := broadcastInDim S8x16x64x2048 ![] bcast_S_S8x16x64x2048 main_cst
  let main_v3 : IVec S8x16x64x2048 1 := cmpf .olt main_v1 main_v2
  let main_v4 : FVec F S8x16x64x2064 .f32 := Host.absf main_arg1
  let main_cst_0 : FVec F S_ .f32 := constant S_ .f32 0x7F800000#32
  let main_v5 : FVec F S8x16x64x2064 .f32 := broadcastInDim S8x16x64x2064 ![] bcast_S_S8x16x64x2064 main_cst_0
  let main_v6 : IVec S8x16x64x2064 1 := cmpf .olt main_v4 main_v5
  let main_v7 : FVec F S8x16x2064 .f32 := (extractStridedSlice S8x16x2064 ![0, 0, 0] · slices_S8x16x2176_S8x16x2064_0_0_0) main_arg3
  let main_v8 : FVec F S8x16x2064 .f32 := Host.absf main_v7
  let main_cst_1 : FVec F S_ .f32 := constant S_ .f32 0x7F800000#32
  let main_v9 : FVec F S8x16x2064 .f32 := broadcastInDim S8x16x2064 ![] bcast_S_S8x16x2064 main_cst_1
  let main_v10 : IVec S8x16x2064 1 := cmpf .olt main_v8 main_v9
  (main_v3, main_v6, main_v10)
-- ==== Kernel.lean ====
abbrev S8x16x64x2048 : Shape := ⟨4, ![8, 16, 64, 2048]⟩
abbrev S8x16x64x2064 : Shape := ⟨4, ![8, 16, 64, 2064]⟩
abbrev S8x16x2176 : Shape := ⟨3, ![8, 16, 2176]⟩
abbrev S8x8x2x2176 : Shape := ⟨4, ![8, 8, 2, 2176]⟩
abbrev S8x2048x1024 : Shape := ⟨3, ![8, 2048, 1024]⟩
abbrev S1x2x64x2048 : Shape := ⟨4, ![1, 2, 64, 2048]⟩
abbrev S1x2x64x2064 : Shape := ⟨4, ![1, 2, 64, 2064]⟩
abbrev S1x1x2x2176 : Shape := ⟨4, ![1, 1, 2, 2176]⟩
abbrev S1x2048x128 : Shape := ⟨3, ![1, 2048, 128]⟩
abbrev S2176x144 : Shape := ⟨2, ![2176, 144]⟩
abbrev S2x80x2176 : Shape := ⟨3, ![2, 80, 2176]⟩
abbrev S128x2176 : Shape := ⟨2, ![128, 2176]⟩
abbrev S2x9x256x256 : Shape := ⟨4, ![2, 9, 256, 256]⟩
abbrev S2x2176 : Shape := ⟨2, ![2, 2176]⟩
abbrev S2x2048 : Shape := ⟨2, ![2, 2048]⟩
abbrev S2x16 : Shape := ⟨2, ![2, 16]⟩
abbrev S2x112 : Shape := ⟨2, ![2, 112]⟩
abbrev S2x64x2048 : Shape := ⟨3, ![2, 64, 2048]⟩
abbrev S128x2048 : Shape := ⟨2, ![128, 2048]⟩
abbrev S1x2x64x16 : Shape := ⟨4, ![1, 2, 64, 16]⟩
abbrev S2x64x16 : Shape := ⟨3, ![2, 64, 16]⟩
abbrev S128x16 : Shape := ⟨2, ![128, 16]⟩
abbrev S128x112 : Shape := ⟨2, ![128, 112]⟩
abbrev S16x2176 : Shape := ⟨2, ![16, 2176]⟩
abbrev S1x2176 : Shape := ⟨2, ![1, 2176]⟩
abbrev S2176x128 : Shape := ⟨2, ![2176, 128]⟩
abbrev S112x2176 : Shape := ⟨2, ![112, 2176]⟩
abbrev S2176x16 : Shape := ⟨2, ![2176, 16]⟩
abbrev S2x64x112 : Shape := ⟨3, ![2, 64, 112]⟩
abbrev S1x16x2176 : Shape := ⟨3, ![1, 16, 2176]⟩
abbrev S2x16x2176 : Shape := ⟨3, ![2, 16, 2176]⟩
abbrev S16x256 : Shape := ⟨2, ![16, 256]⟩
abbrev S64x256 : Shape := ⟨2, ![64, 256]⟩
abbrev S256x256 : Shape := ⟨2, ![256, 256]⟩
abbrev S1x1x64x256 : Shape := ⟨4, ![1, 1, 64, 256]⟩
abbrev S1x256 : Shape := ⟨2, ![1, 256]⟩
abbrev S144x256 : Shape := ⟨2, ![144, 256]⟩
abbrev S256x144 : Shape := ⟨2, ![256, 144]⟩
abbrev S1x1x256x256 : Shape := ⟨4, ![1, 1, 256, 256]⟩
abbrev S256 : Shape := ⟨1, ![256]⟩
abbrev S16x144 : Shape := ⟨2, ![16, 144]⟩
abbrev S1x1x16x256 : Shape := ⟨4, ![1, 1, 16, 256]⟩
abbrev S1x80x256 : Shape := ⟨3, ![1, 80, 256]⟩
abbrev S80x256 : Shape := ⟨2, ![80, 256]⟩
abbrev S1x80x16 : Shape := ⟨3, ![1, 80, 16]⟩
abbrev S80x16 : Shape := ⟨2, ![80, 16]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 6
  | .vmem => 14
  | .smem => 0
  | _ => 0

abbrev bufTy : (tb : Table) → Fin (tcTables nBuf tb) → BufTy
  | .hbm, ⟨0, _⟩ => ⟨S8x16x64x2048, .bf16⟩
  | .hbm, ⟨1, _⟩ => ⟨S8x16x64x2064, .f32⟩
  | .hbm, ⟨2, _⟩ => ⟨S8x16x64x2064, .f32⟩
  | .hbm, ⟨3, _⟩ => ⟨S8x16x2176, .f32⟩
  | .hbm, ⟨4, _⟩ => ⟨S8x8x2x2176, .f32⟩
  | .hbm, ⟨5, _⟩ => ⟨S8x2048x1024, .bf16⟩
  | .local _ .vmem, ⟨0, _⟩ => ⟨S1x2x64x2048, .bf16⟩
  | .local _ .vmem, ⟨1, _⟩ => ⟨S1x2x64x2048, .bf16⟩
  | .local _ .vmem, ⟨2, _⟩ => ⟨S1x2x64x2064, .f32⟩
  | .local _ .vmem, ⟨3, _⟩ => ⟨S1x2x64x2064, .f32⟩
  | .local _ .vmem, ⟨4, _⟩ => ⟨S1x2x64x2064, .f32⟩
  | .local _ .vmem, ⟨5, _⟩ => ⟨S1x2x64x2064, .f32⟩
  | .local _ .vmem, ⟨6, _⟩ => ⟨S1x1x2x2176, .f32⟩
  | .local _ .vmem, ⟨7, _⟩ => ⟨S1x1x2x2176, .f32⟩
  | .local _ .vmem, ⟨8, _⟩ => ⟨S1x2048x128, .bf16⟩
  | .local _ .vmem, ⟨9, _⟩ => ⟨S1x2048x128, .bf16⟩
  | .local _ .vmem, ⟨10, _⟩ => ⟨S2176x144, .bf16⟩
  | .local _ .vmem, ⟨11, _⟩ => ⟨S2x80x2176, .bf16⟩
  | .local _ .vmem, ⟨12, _⟩ => ⟨S128x2176, .f32⟩
  | .local _ .vmem, ⟨13, _⟩ => ⟨S2x9x256x256, .f32⟩
  | _, _ => ⟨S8x16x64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x64x2064 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x64x2064 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x16x64x2048 : Shape := ⟨4, ![8, 16, 64, 2048]⟩
abbrev S8x16x64x2064 : Shape := ⟨4, ![8, 16, 64, 2064]⟩
abbrev S8x16x2176 : Shape := ⟨3, ![8, 16, 2176]⟩
abbrev S8x2048x16x64 : Shape := ⟨4, ![8, 2048, 16, 64]⟩
abbrev S_ : Shape := ⟨0, ![]⟩
abbrev S8x2064x16x64 : Shape := ⟨4, ![8, 2064, 16, 64]⟩
abbrev S8x16x2064 : Shape := ⟨3, ![8, 16, 2064]⟩
abbrev S8x2064x16 : Shape := ⟨3, ![8, 2064, 16]⟩
abbrev S8x2048x16 : Shape := ⟨3, ![8, 2048, 16]⟩
abbrev S8x16x2048x2064 : Shape := ⟨4, ![8, 16, 2048, 2064]⟩
abbrev S8x16x2048 : Shape := ⟨3, ![8, 16, 2048]⟩
abbrev S8x16x2048x1 : Shape := ⟨4, ![8, 16, 2048, 1]⟩
abbrev S8x16x1x2064 : Shape := ⟨4, ![8, 16, 1, 2064]⟩
abbrev S2048 : Shape := ⟨1, ![2048]⟩
abbrev S2064 : Shape := ⟨1, ![2064]⟩
abbrev S1x2064 : Shape := ⟨2, ![1, 2064]⟩
abbrev S2048x1 : Shape := ⟨2, ![2048, 1]⟩
abbrev S2048x2064 : Shape := ⟨2, ![2048, 2064]⟩
abbrev S8x2048x1024 : Shape := ⟨3, ![8, 2048, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8x16x64x2048, .bf16⟩
  | .hbm, ⟨1, _⟩ => ⟨S8x16x64x2064, .f32⟩
  | .hbm, ⟨2, _⟩ => ⟨S8x16x64x2064, .f32⟩
  | .hbm, ⟨3, _⟩ => ⟨S8x16x2176, .f32⟩
  | .hbm, ⟨4, _⟩ => ⟨S8x16x64x2048, .f32⟩
  | .hbm, ⟨5, _⟩ => ⟨S8x2048x16x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x16x64, .f32⟩
  | .hbm, ⟨12, _⟩ => ⟨S8x2048x16x64, .f32⟩
  | .hbm, ⟨13, _⟩ => ⟨S8x2064x16x64, .f32⟩
  | .hbm, ⟨14, _⟩ => ⟨S8x2064x16x64, .f32⟩
  | .hbm, ⟨15, _⟩ => ⟨S8x16x2064, .f32⟩
  | .hbm, ⟨16, _⟩ => ⟨S8x2064x16, .f32⟩
  | .hbm, ⟨17, _⟩ => ⟨S8x2048x16, .f32⟩
  | .hbm, ⟨18, _⟩ => ⟨S8x16x2048x2064, .f32⟩
  | .hbm, ⟨19, _⟩ => ⟨S_, .f32⟩
  | .hbm, ⟨20, _⟩ => ⟨S8x16x2048x2064, .f32⟩
  | .hbm, ⟨21, _⟩ => ⟨S8x16x2048x2064, .f32⟩
  | .hbm, ⟨22, _⟩ => ⟨S8x16x2048, .f32⟩
  | .hbm, ⟨23, _⟩ => ⟨S8x16x2048x1, .f32⟩
  | .hbm, ⟨24, _⟩ => ⟨S8x16x2064, .f32⟩
  | .hbm, ⟨25, _⟩ => ⟨S8x16x1x2064, .f32⟩
  | .hbm, ⟨26, _⟩ => ⟨S8x16x2048x2064, .f32⟩
  | .hbm, ⟨27, _⟩ => ⟨S8x16x2048x2064, .f32⟩
  | .hbm, ⟨28, _⟩ => ⟨S8x16x2048x2064, .f32⟩
  | .hbm, ⟨29, _⟩ => ⟨S8x16x2048x2064, .f32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S2064, .i32⟩
  | .hbm, ⟨35, _⟩ => ⟨S1x2064, .i32⟩
  | .hbm, ⟨36, _⟩ => ⟨S2048x1, .i32⟩
  | .hbm, ⟨37, _⟩ => ⟨S2048x2064, .i32⟩
  | .hbm, ⟨38, _⟩ => ⟨S2048x2064, .i32⟩
  | .hbm, ⟨39, _⟩ => ⟨S2048x2064, .i1⟩
  | .hbm, ⟨40, _⟩ => ⟨S_, .f32⟩
  | .hbm, ⟨41, _⟩ => ⟨S_, .f32⟩
  | .hbm, ⟨42, _⟩ => ⟨S8x16x2048x2064, .i1⟩
  | .hbm, ⟨43, _⟩ => ⟨S8x16x2048x2064, .f32⟩
  | .hbm, ⟨44, _⟩ => ⟨S8x16x2048x2064, .f32⟩
  | .hbm, ⟨45, _⟩ => ⟨S_, .f32⟩
  | .hbm, ⟨46, _⟩ => ⟨S8x16x2048, .f32⟩
  | .hbm, ⟨47, _⟩ => ⟨S_, .f32⟩
  | .hbm, ⟨48, _⟩ => ⟨S8x16x2048, .f32⟩
  | .hbm, ⟨49, _⟩ => ⟨S8x16x2048, .f32⟩
  | .hbm, ⟨50, _⟩ => ⟨S8x16x2048x1, .f32⟩
  | .hbm, ⟨51, _⟩ => ⟨S8x16x2048x2064, .f32⟩
  | .hbm, ⟨52, _⟩ => ⟨S8x16x2048x2064, .f32⟩
  | .hbm, ⟨53, _⟩ => ⟨S8x16x2048x2064, .f32⟩
  | .hbm, ⟨54, _⟩ => ⟨S_, .f32⟩
  | .hbm, ⟨55, _⟩ => ⟨S8x16x2048, .f32⟩
  | .hbm, ⟨56, _⟩ => ⟨S8x16x2048x1, .f32⟩
  | .hbm, ⟨57, _⟩ => ⟨S8x16x2048x2064, .f32⟩
  | .hbm, ⟨58, _⟩ => ⟨S8x16x2048x2064, .f32⟩
  | .hbm, ⟨59, _⟩ => ⟨S8x16x64x2048, .f32⟩
  | .hbm, ⟨60, _⟩ => ⟨S8x2048x16x64, .f32⟩
  | .hbm, ⟨61, _⟩ => ⟨S8x2048x1024, .f32⟩
  | .hbm, ⟨62, _⟩ => ⟨S8x2048x1024, .bf16⟩
  | _, _ => ⟨S8x16x64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x4096, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S16384x1024, .f32⟩
  | .hbm, ⟨8, _⟩ => ⟨S16384x1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x4096, .f32⟩
  | .hbm, ⟨30, _⟩ => ⟨S_, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Kernel3.lean ====
abbrev S16x1024 : Shape := ⟨2, ![16, 1024]⟩
abbrev S8x2048x1024 : Shape := ⟨3, ![8, 2048, 1024]⟩
abbrev S1024 : Shape := ⟨1, ![1024]⟩
abbrev S1024x2064 : Shape := ⟨2, ![1024, 2064]⟩
abbrev S16 : Shape := ⟨1, ![16]⟩
abbrev S1024x1024 : Shape := ⟨2, ![1024, 1024]⟩
abbrev S64 : Shape := ⟨1, ![64]⟩
abbrev S2064x1024 : Shape := ⟨2, ![2064, 1024]⟩
abbrev S1x1024 : Shape := ⟨2, ![1, 1024]⟩
abbrev S16x1 : Shape := ⟨2, ![16, 1]⟩
abbrev S64x1 : Shape := ⟨2, ![64, 1]⟩
abbrev S8x16x64x2064 : Shape := ⟨4, ![8, 16, 64, 2064]⟩
abbrev S8x16x2064 : Shape := ⟨3, ![8, 16, 2064]⟩
abbrev S8x16x64x2048 : Shape := ⟨4, ![8, 16, 64, 2048]⟩
abbrev S1x2048x1024 : Shape := ⟨3, ![1, 2048, 1024]⟩
abbrev S256x1024 : Shape := ⟨2, ![256, 1024]⟩
abbrev S1x4x64x2064 : Shape := ⟨4, ![1, 4, 64, 2064]⟩
abbrev S1x16x2064 : Shape := ⟨3, ![1, 16, 2064]⟩
abbrev S1x4x64x2048 : Shape := ⟨4, ![1, 4, 64, 2048]⟩
abbrev S2048x1024 : Shape := ⟨2, ![2048, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S16x2064 : Shape := ⟨2, ![16, 2064]⟩
abbrev S256x2064 : Shape := ⟨2, ![256, 2064]⟩
abbrev S4x64x2064 : Shape := ⟨3, ![4, 64, 2064]⟩
abbrev S4x2064 : Shape := ⟨2, ![4, 2064]⟩
abbrev S4x1x2064 : Shape := ⟨3, ![4, 1, 2064]⟩
abbrev S1x64x1 : Shape := ⟨3, ![1, 64, 1]⟩
abbrev S256x2048 : Shape := ⟨2, ![256, 2048]⟩
abbrev S4x64x2048 : Shape := ⟨3, ![4, 64, 2048]⟩
abbrev S4x2048 : Shape := ⟨2, ![4, 2048]⟩
abbrev S4x1x2048 : Shape := ⟨3, ![4, 1, 2048]⟩

abbrev nBuf : Space → Nat
  | .hbm => 25
  | .vmem => 24
  | .smem => 0
  | _ => 0

abbrev bufTy : (tb : Table) → Fin (tcTables nBuf tb) → BufTy
  | .hbm, ⟨0, _⟩ => ⟨S16x1024, .f32⟩
  | .hbm, ⟨1, _⟩ => ⟨S8x2048x1024, .f32⟩
  | .hbm, ⟨2, _⟩ => ⟨S1024, .f32⟩
  | .hbm, ⟨3, _⟩ => ⟨S1024, .f32⟩
  | .hbm, ⟨4, _⟩ => ⟨S1024x2064, .f32⟩
  | .hbm, ⟨5, _⟩ => ⟨S16, .f32⟩
  | .hbm, ⟨6, _⟩ => ⟨S1024x1024, .f32⟩
  | .hbm, ⟨7, _⟩ => ⟨S64, .f32⟩
  | .hbm, ⟨8, _⟩ => ⟨S64, .f32⟩
  | .hbm, ⟨9, _⟩ => ⟨S2064x1024, .f32⟩
  | .hbm, ⟨10, _⟩ => ⟨S2064x1024, .bf16⟩
  | .hbm, ⟨11, _⟩ => ⟨S1024x1024, .bf16⟩
  | .hbm, ⟨12, _⟩ => ⟨S1024x1024, .bf16⟩
  | .hbm, ⟨13, _⟩ => ⟨S16x1024, .bf16⟩
  | .hbm, ⟨14, _⟩ => ⟨S1x1024, .f32⟩
  | .hbm, ⟨15, _⟩ => ⟨S1x1024, .f32⟩
  | .hbm, ⟨16, _⟩ => ⟨S16x1, .f32⟩
  | .hbm, ⟨17, _⟩ => ⟨S1024x1024, .f32⟩
  | .hbm, ⟨18, _⟩ => ⟨S1024x1024, .bf16⟩
  | .hbm, ⟨19, _⟩ => ⟨S64x1, .f32⟩
  | .hbm, ⟨20, _⟩ => ⟨S64x1, .f32⟩
  | .hbm, ⟨21, _⟩ => ⟨S8x16x64x2064, .f32⟩
  | .hbm, ⟨22, _⟩ => ⟨S8x16x64x2064, .f32⟩
  | .hbm, ⟨23, _⟩ => ⟨S8x16x2064, .f32⟩
  | .hbm, ⟨24, _⟩ => ⟨S8x16x64x2048, .bf16⟩
  | .local _ .vmem, ⟨0, _⟩ => ⟨S16x1024, .f32⟩
  | .local _ .vmem, ⟨1, _⟩ => ⟨S1x2048x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S16x1024, .bf16⟩
  | .local _ .vmem, ⟨9, _⟩ => ⟨S16x1, .f32⟩
  | .local _ .vmem, ⟨10, _⟩ => ⟨S256x1024, .bf16⟩
  | .local _ .vmem, ⟨11, _⟩ => ⟨S256x1024, .bf16⟩
  | .local _ .vmem, ⟨12, _⟩ => ⟨S64x1, .f32⟩
  | .local _ .vmem, ⟨13, _⟩ => ⟨S64x1, .f32⟩
  | .local _ .vmem, ⟨14, _⟩ => ⟨S1x4x64x2064, .f32⟩
  | .local _ .vmem, ⟨15, _⟩ => ⟨S1x4x64x2064, .f32⟩
  | .local _ .vmem, ⟨16, _⟩ => ⟨S1x4x64x2064, .f32⟩
  | .local _ .vmem, ⟨17, _⟩ => ⟨S1x4x64x2064, .f32⟩
  | .local _ .vmem, ⟨18, _⟩ => ⟨S1x16x2064, .f32⟩
  | .local _ .vmem, ⟨19, _⟩ => ⟨S1x16x2064, .f32⟩
  | .local _ .vmem, ⟨20, _⟩ => ⟨S1x4x64x2048, .bf16⟩
  | .local _ .vmem, ⟨21, _⟩ => ⟨S1x4x64x2048, .bf16⟩
  | .local _ .vmem, ⟨22, _⟩ => ⟨S2064x1024, .bf16⟩
  | .local _ .vmem, ⟨23, _⟩ => ⟨S2048x1024, .bf16⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_44 : BitVec 32 := 0#32
  let c4_i32 : BitVec 32 := 4#32
  let v78 : BitVec 32 := Scalar.addi c0_i32_44 c4_i32
  let c1_i32 : BitVec 32 := 1#32
  ⟨c0_i32_44, v78, c1_i32⟩
def k0_mult1 (k0_t1 : Fin k0_t1_loop.trips) : BitVec 32 :=
  let c0_i32_44 : BitVec 32 := 0#32
  let c1_i32 : BitVec 32 := 1#32
  let arg19 : BitVec 32 := Scf.iv c0_i32_44 c1_i32 k0_t1
  let c512_i32 : BitVec 32 := 512#32
  let v98 : BitVec 32 := Scalar.muli arg19 c512_i32
  v98
def k0_off1 (k0_t1 : Fin k0_t1_loop.trips) : Fin 3 → Nat :=
  let c0_58 : Index := 0#32
  let c0_i32_44 : BitVec 32 := 0#32
  let c1_i32 : BitVec 32 := 1#32
  let arg19 : BitVec 32 := Scf.iv c0_i32_44 c1_i32 k0_t1
  let c512_i32 : BitVec 32 := 512#32
  let v98 : BitVec 32 := Scalar.muli arg19 c512_i32
  let v99 : BitVec 32 := v98
  let v100 : Index := Scalar.indexCast v99
  let c0_59 : Index := 0#32
  ![0, v100.toNat, 0]
def k0_mult2 (k0_t1 : Fin k0_t1_loop.trips) : BitVec 32 :=
  let c16_i32 : BitVec 32 := 16#32
  let c0_i32_44 : BitVec 32 := 0#32
  let c1_i32 : BitVec 32 := 1#32
  let arg19 : BitVec 32 := Scf.iv c0_i32_44 c1_i32 k0_t1
  let c512_i32 : BitVec 32 := 512#32
  let v98 : BitVec 32 := Scalar.muli arg19 c512_i32
  let v99 : BitVec 32 := v98
  let v118 : BitVec 32 := Scalar.addi c16_i32 v99
  v118
def k0_off2 (k0_t1 : Fin k0_t1_loop.trips) : Fin 2 → Nat :=
  let c16_i32 : BitVec 32 := 16#32
  let c0_i32_44 : BitVec 32 := 0#32
  let c1_i32 : BitVec 32 := 1#32
  let arg19 : BitVec 32 := Scf.iv c0_i32_44 c1_i32 k0_t1
  let c512_i32 : BitVec 32 := 512#32
  let v98 : BitVec 32 := Scalar.muli arg19 c512_i32
  let v99 : BitVec 32 := v98
  let v118 : BitVec 32 := Scalar.addi c16_i32 v99
  let v119 : BitVec 32 := v118
  let v120 : Index := Scalar.indexCast v119
  let c0_65 : Index := 0#32
  ![v120.toNat, 0]
def k0_off3 (k0_t1 : Fin k0_t1_loop.trips) : Fin 2 → Nat :=
  let c0_i32_44 : BitVec 32 := 0#32
  let c1_i32 : BitVec 32 := 1#32
  let arg19 : BitVec 32 := Scf.iv c0_i32_44 c1_i32 k0_t1
  let c512_i32 : BitVec 32 := 512#32
  let v98 : BitVec 32 := Scalar.muli arg19 c512_i32
  let v99 : BitVec 32 := v98
  let v129 : Index := Scalar.indexCast v99
  let c0_68 : Index := 0#32
  ![v129.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x4x64x2064 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x64x2064 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x2064 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x4x64x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel3Ideal.lean ====
variable {F : FTy → Type} [FloatOps F] [Named F]
def κ : String → Option EReal := fun
  | "qscale" => some (((8 * (Real.log 2))⁻¹ : ℝ) : EReal)
  | _ => none
-- ==== Reference3Ideal.lean ====
abbrev S16x1024 : Shape := ⟨2, ![16, 1024]⟩
abbrev S8x2048x1024 : Shape := ⟨3, ![8, 2048, 1024]⟩
abbrev S1024 : Shape := ⟨1, ![1024]⟩
abbrev S1024x2064 : Shape := ⟨2, ![1024, 2064]⟩
abbrev S16 : Shape := ⟨1, ![16]⟩
abbrev S1024x1024 : Shape := ⟨2, ![1024, 1024]⟩
abbrev S64 : Shape := ⟨1, ![64]⟩
abbrev S1x16x1024 : Shape := ⟨3, ![1, 16, 1024]⟩
abbrev S8x16x1024 : Shape := ⟨3, ![8, 16, 1024]⟩
abbrev S8x2064x1024 : Shape := ⟨3, ![8, 2064, 1024]⟩
abbrev S_ : Shape := ⟨0, ![]⟩
abbrev S8x2064 : Shape := ⟨2, ![8, 2064]⟩
abbrev S8x2064x1 : Shape := ⟨3, ![8, 2064, 1]⟩
abbrev S1x1x1024 : Shape := ⟨3, ![1, 1, 1024]⟩
abbrev S8x2064x2064 : Shape := ⟨3, ![8, 2064, 2064]⟩
abbrev S8x2064x16x64 : Shape := ⟨4, ![8, 2064, 16, 64]⟩
abbrev S8x2064x16 : Shape := ⟨3, ![8, 2064, 16]⟩
abbrev S8x2064x16x1 : Shape := ⟨4, ![8, 2064, 16, 1]⟩
abbrev S1x1x1x64 : Shape := ⟨4, ![1, 1, 1, 64]⟩
abbrev S1x1x16 : Shape := ⟨3, ![1, 1, 16]⟩
abbrev S8x2048 : Shape := ⟨2, ![8, 2048]⟩
abbrev S8x2048x1 : Shape := ⟨3, ![8, 2048, 1]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S8x16x64x2064 : Shape := ⟨4, ![8, 16, 64, 2064]⟩
abbrev S8x16x2064 : Shape := ⟨3, ![8, 16, 2064]⟩
abbrev S8x16x64x2048 : Shape := ⟨4, ![8, 16, 64, 2048]⟩

abbrev nBuf : Space → Nat
  | .hbm => 115
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x2048x1024, .f32⟩
  | .hbm, ⟨2, _⟩ => ⟨S1024, .f32⟩
  | .hbm, ⟨3, _⟩ => ⟨S1024, .f32⟩
  | .hbm, ⟨4, _⟩ => ⟨S1024x2064, .f32⟩
  | .hbm, ⟨5, _⟩ => ⟨S16, .f32⟩
  | .hbm, ⟨6, _⟩ => ⟨S1024x1024, .f32⟩
  | .hbm, ⟨7, _⟩ => ⟨S64, .f32⟩
  | .hbm, ⟨8, _⟩ => ⟨S64, .f32⟩
  | .hbm, ⟨9, _⟩ => ⟨S1x16x1024, .f32⟩
  | .hbm, ⟨10, _⟩ => ⟨S8x16x1024, .f32⟩
  | .hbm, ⟨11, _⟩ => ⟨S8x2064x1024, .f32⟩
  | .hbm, ⟨12, _⟩ => ⟨S8x2064x1024, .f32⟩
  | .hbm, ⟨13, _⟩ => ⟨S_, .f32⟩
  | .hbm, ⟨14, _⟩ => ⟨S8x2064, .f32⟩
  | .hbm, ⟨15, _⟩ => ⟨S8x2064x1, .f32⟩
  | .hbm, ⟨16, _⟩ => ⟨S_, .f32⟩
  | .hbm, ⟨17, _⟩ => ⟨S8x2064x1, .f32⟩
  | .hbm, ⟨18, _⟩ => ⟨S8x2064x1, .f32⟩
  | .hbm, ⟨19, _⟩ => ⟨S_, .f32⟩
  | .hbm, ⟨20, _⟩ => ⟨S8x2064x1, .f32⟩
  | .hbm, ⟨21, _⟩ => ⟨S8x2064x1, .f32⟩
  | .hbm, ⟨22, _⟩ => ⟨S8x2064x1, .f32⟩
  | .hbm, ⟨23, _⟩ => ⟨S8x2064x1024, .f32⟩
  | .hbm, ⟨24, _⟩ => ⟨S8x2064x1024, .f32⟩
  | .hbm, ⟨25, _⟩ => ⟨S1x1x1024, .f32⟩
  | .hbm, ⟨26, _⟩ => ⟨S8x2064x1024, .f32⟩
  | .hbm, ⟨27, _⟩ => ⟨S8x2064x1024, .f32⟩
  | .hbm, ⟨28, _⟩ => ⟨S8x2064x2064, .f32⟩
  | .hbm, ⟨29, _⟩ => ⟨S8x2064x1024, .f32⟩
  | .hbm, ⟨30, _⟩ => ⟨S8x2064x16x64, .f32⟩
  | .hbm, ⟨31, _⟩ => ⟨S8x2064x16x64, .f32⟩
  | .hbm, ⟨32, _⟩ => ⟨S_, .f32⟩
  | .hbm, ⟨33, _⟩ => ⟨S8x2064x16, .f32⟩
  | .hbm, ⟨34, _⟩ => ⟨S8x2064x16x1, .f32⟩
  | .hbm, ⟨35, _⟩ => ⟨S_, .f32⟩
  | .hbm, ⟨36, _⟩ => ⟨S8x2064x16x1, .f32⟩
  | .hbm, ⟨37, _⟩ => ⟨S8x2064x16x1, .f32⟩
  | .hbm, ⟨38, _⟩ => ⟨S_, .f32⟩
  | .hbm, ⟨39, _⟩ => ⟨S8x2064x16x1, .f32⟩
  | .hbm, ⟨40, _⟩ => ⟨S8x2064x16x1, .f32⟩
  | .hbm, ⟨41, _⟩ => ⟨S8x2064x16x1, .f32⟩
  | .hbm, ⟨42, _⟩ => ⟨S8x2064x16x64, .f32⟩
  | .hbm, ⟨43, _⟩ => ⟨S8x2064x16x64, .f32⟩
  | .hbm, ⟨44, _⟩ => ⟨S1x1x1x64, .f32⟩
  | .hbm, ⟨45, _⟩ => ⟨S8x2064x16x64, .f32⟩
  | .hbm, ⟨46, _⟩ => ⟨S8x2064x16x64, .f32⟩
  | .hbm, ⟨47, _⟩ => ⟨S8x2064x1024, .f32⟩
  | .hbm, ⟨48, _⟩ => ⟨S8x2064x16x64, .f32⟩
  | .hbm, ⟨49, _⟩ => ⟨S8x2064x16, .f32⟩
  | .hbm, ⟨50, _⟩ => ⟨S1x1x16, .f32⟩
  | .hbm, ⟨51, _⟩ => ⟨S8x2064x16, .f32⟩
  | .hbm, ⟨52, _⟩ => ⟨S8x2064x16, .f32⟩
  | .hbm, ⟨53, _⟩ => ⟨S8x2064x16, .f32⟩
  | .hbm, ⟨54, _⟩ => ⟨S_, .f32⟩
  | .hbm, ⟨55, _⟩ => ⟨S8x2064x16, .f32⟩
  | .hbm, ⟨56, _⟩ => ⟨S8x2064x16, .f32⟩
  | .hbm, ⟨57, _⟩ => ⟨S8x2064x16, .f32⟩
  | .hbm, ⟨58, _⟩ => ⟨S8x2064x16, .f32⟩
  | .hbm, ⟨59, _⟩ => ⟨S8x2064x16, .i1⟩
  | .hbm, ⟨60, _⟩ => ⟨S8x2064x16, .f32⟩
  | .hbm, ⟨61, _⟩ => ⟨S8x2064x16, .f32⟩
  | .hbm, ⟨62, _⟩ => ⟨S8x2064x16, .f32⟩
  | .hbm, ⟨63, _⟩ => ⟨S8x2064x16, .f32⟩
  | .hbm, ⟨64, _⟩ => ⟨S8x2064x16, .f32⟩
  | .hbm, ⟨65, _⟩ => ⟨S8x2064x16, .f32⟩
  | .hbm, ⟨66, _⟩ => ⟨S8x2064x16, .f32⟩
  | .hbm, ⟨67, _⟩ => ⟨S8x2064x16, .f32⟩
  | .hbm, ⟨68, _⟩ => ⟨S8x2064x16, .f32⟩
  | .hbm, ⟨69, _⟩ => ⟨S8x2048x1024, .f32⟩
  | .hbm, ⟨70, _⟩ => ⟨S_, .f32⟩
  | .hbm, ⟨71, _⟩ => ⟨S8x2048, .f32⟩
  | .hbm, ⟨72, _⟩ => ⟨S8x2048x1, .f32⟩
  | .hbm, ⟨73, _⟩ => ⟨S_, .f32⟩
  | .hbm, ⟨74, _⟩ => ⟨S8x2048x1, .f32⟩
  | .hbm, ⟨75, _⟩ => ⟨S8x2048x1, .f32⟩
  | .hbm, ⟨76, _⟩ => ⟨S_, .f32⟩
  | .hbm, ⟨77, _⟩ => ⟨S8x2048x1, .f32⟩
  | .hbm, ⟨78, _⟩ => ⟨S8x2048x1, .f32⟩
  | .hbm, ⟨79, _⟩ => ⟨S8x2048x1, .f32⟩
  | .hbm, ⟨80, _⟩ => ⟨S8x2048x1024, .f32⟩
  | .hbm, ⟨81, _⟩ => ⟨S8x2048x1024, .f32⟩
  | .hbm, ⟨82, _⟩ => ⟨S1x1x1024, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S8x2048x16x64, .f32⟩
  | .hbm, ⟨87, _⟩ => ⟨S8x2048x16x64, .f32⟩
  | .hbm, ⟨88, _⟩ => ⟨S_, .f32⟩
  | .hbm, ⟨89, _⟩ => ⟨S8x2048x16, .f32⟩
  | .hbm, ⟨90, _⟩ => ⟨S8x2048x16x1, .f32⟩
  | .hbm, ⟨91, _⟩ => ⟨S_, .f32⟩
  | .hbm, ⟨92, _⟩ => ⟨S8x2048x16x1, .f32⟩
  | .hbm, ⟨93, _⟩ => ⟨S8x2048x16x1, .f32⟩
  | .hbm, ⟨94, _⟩ => ⟨S_, .f32⟩
  | .hbm, ⟨95, _⟩ => ⟨S8x2048x16x1, .f32⟩
  | .hbm, ⟨96, _⟩ => ⟨S8x2048x16x1, .f32⟩
  | .hbm, ⟨97, _⟩ => ⟨S8x2048x16x1, .f32⟩
  | .hbm, ⟨98, _⟩ => ⟨S8x2048x16x64, .f32⟩
  | .hbm, ⟨99, _⟩ => ⟨S8x2048x16x64, .f32⟩
  | .hbm, ⟨100, _⟩ => ⟨S1x1x1x64, .f32⟩
  | .hbm, ⟨101, _⟩ => ⟨S8x2048x16x64, .f32⟩
  | .hbm, ⟨102, _⟩ => ⟨S8x2048x16x64, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S8x2048x16x64, .f32⟩
  | .hbm, ⟨109, _⟩ => ⟨S8x2048x16x64, .f32⟩
  | .hbm, ⟨110, _⟩ => ⟨S8x2048x16x64, .bf16⟩
  | .hbm, ⟨111, _⟩ => ⟨S8x16x64x2064, .f32⟩
  | .hbm, ⟨112, _⟩ => ⟨S8x16x64x2064, .f32⟩
  | .hbm, ⟨113, _⟩ => ⟨S8x16x2064, .f32⟩
  | .hbm, ⟨114, _⟩ => ⟨S8x16x64x2048, .bf16⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_v0 : Ref sig .tc := ⟨.hbm, 53, rfl⟩
abbrev main_call0_call0_cst : Ref sig .tc := ⟨.hbm, 54, rfl⟩
abbrev main_call0_call0_v0 : Ref sig .tc := ⟨.hbm, 55, rfl⟩
abbrev main_call0_call0_v1 : Ref sig .tc := ⟨.hbm, 56, rfl⟩
abbrev main_call0_call0_v2 : Ref sig .tc := ⟨.hbm, 57, rfl⟩
abbrev main_call0_call0_v3 : Ref sig .tc := ⟨.hbm, 58, rfl⟩
abbrev main_call0_call0_v4 : Ref sig .tc := ⟨.hbm, 59, rfl⟩
abbrev main_call0_call0_v5 : Ref sig .tc := ⟨.hbm, 60, rfl⟩
abbrev main_call0_call0_v6 : Ref sig .tc := ⟨.hbm, 61, rfl⟩
abbrev main_call0_call0_v7 : Ref sig .tc := ⟨.hbm, 62, rfl⟩
abbrev main_call0_call0_v8 : Ref sig .tc := ⟨.hbm, 63, rfl⟩
abbrev main_call0_call0_v9 : Ref sig .tc := ⟨.hbm, 64, rfl⟩
abbrev main_call0_call0_v10 : Ref sig .tc := ⟨.hbm, 65, rfl⟩
abbrev main_call0_call0_v11 : Ref sig .tc := ⟨.hbm, 66, rfl⟩
abbrev main_call0_v1 : Ref sig .tc := ⟨.hbm, 67, rfl⟩
abbrev main_v38 : Ref sig .tc := ⟨.hbm, 68, rfl⟩
abbrev main_v39 : Ref sig .tc := ⟨.hbm, 69, rfl⟩
abbrev main_cst_5 : Ref sig .tc := ⟨.hbm, 70, rfl⟩
abbrev main_v40 : Ref sig .tc := ⟨.hbm, 71, rfl⟩
abbrev main_v41 : Ref sig .tc := ⟨.hbm, 72, rfl⟩
abbrev main_cst_6 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_8 : Ref sig .tc := ⟨.hbm, 88, rfl⟩
abbrev main_v55 : Ref sig .tc := ⟨.hbm, 89, rfl⟩
abbrev main_v56 : Ref sig .tc := ⟨.hbm, 90, rfl⟩
abbrev main_cst_9 : Ref sig .tc := ⟨.hbm, 91, rfl⟩
abbrev main_v57 : Ref sig .tc := ⟨.hbm, 92, rfl⟩
abbrev main_v58 : Ref sig .tc := ⟨.hbm, 93, rfl⟩
abbrev main_cst_10 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_11 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== Proof.Claims.lean ====
/- The claims that need no reading of values: every program's frame, the named constants of the attention, and the last stage's
   products at the idealization with no rewrite. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.ReferenceIdeal.Run
public import proofs.«01_k».proof.Proof.Gen.Reference2Ideal.Run
public import proofs.«01_k».proof.Proof.Gen.Pre_finite

@[expose] public section

set_option maxRecDepth 16384

noncomputable section

open Idealize.ShloMosaic Idealize.ShloMosaic.TcCoe Idealize.SL.Sem

namespace Cert.Proof

/-- The attention kernel, as printed, runs to the end and leaves its arguments alone. -/
theorem frame_p : Cert.quiescent_Kernel := fun m ρ _ => Cert.Kernel.Gen.frame m ρ
/-- So does its idealization. -/
theorem frame_pi : Cert.quiescent_KernelIdeal := fun m ρ _ => Cert.KernelIdeal.Gen.frame m ρ
/-- And the same under the precondition of the value claim. -/
theorem frame_pi_finite : Cert.quiescent_KernelIdeal_pre_finite := fun m ρ _ => Cert.KernelIdeal.Gen.frame m ρ

/-- The attention's reference runs to the end and leaves its arguments alone. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- And the same under the precondition of the value claim. -/
theorem frame_ri_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The last stage's kernel, as printed, runs to the end and leaves its arguments alone. -/
theorem frame_p2 : Cert.quiescent_Kernel2 := fun m ρ _ => Cert.Kernel2.Gen.frame m ρ
/-- So does its idealization. -/
theorem frame_pi2 : Cert.quiescent_Kernel2Ideal := fun m ρ _ => Cert.Kernel2Ideal.Gen.frame m ρ
/-- So does the last stage's reference. -/
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two named constants of the attention stand for `(log 2)⁻¹` and for `-∞`. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

/-- The last stage's idealization names no constant. -/
theorem preserves2 : Cert.preserves_Kernel2_Kernel2Ideal := trivial

end Cert.Proof

end
-- ==== Proof.Tile.lean ====
/- One grid point of the attention kernel, written once for all of its tiles: the same operations the body performs, with the tile
   number and the head as parameters. Proof/TileRun.lean shows that the run's eight stores are these. -/
module

public import proofs.«01_k».proof.Proof.Gen.KernelIdeal.Skeleton

@[expose] public section

set_option maxRecDepth 16384

noncomputable section

namespace Cert.KernelIdeal.Tile

open Idealize.ShloMosaic Idealize.SL.Sem Cert.KernelIdeal Cert.KernelIdeal.Gen

variable {F : FTy → Type} [FloatOps F] [Named F]

/-- What a grid point works on once its buffers are filled: the gate sums in kernel order, the queries, the augmented keys, the
    augmented values and the scores kept between the two passes, each cut into the blocks the body loads. -/
structure Src (F : FTy → Type) where
  cf : FVec F S2x2176 .f32
  q : Fin 2 → Fin 8 → Vec F S1x1x64x256 .bf16
  k : Fin 8 → Vec F S256x144 .bf16
  km : Vec F S16x144 .bf16
  v : Fin 2 → Fin 8 → Vec F S1x80x256 .bf16
  vm : Fin 2 → Vec F S1x80x16 .bf16
  s : Fin 2 → Fin 8 → Fin 8 → Vec F S1x1x256x256 .f32
  s16 : Fin 2 → Fin 8 → Vec F S1x1x16x256 .f32

variable (E : Src F)

theorem slices_cf (e : Fin 2) (i : Fin 8) : S2x2176.Slices ![e.val, 256 * i.val] S1x256 :=
  ⟨rfl, by revert e i; decide⟩

/-- The gate sums of a tile's queries. -/
def cfq (e : Fin 2) (i : Fin 8) : FVec F S1x256 .f32 := extractStridedSlice S1x256 ![e.val, 256 * i.val] E.cf (slices_cf e i)

/-- The first, second and third piece of a row of gate sums, and what they leave. -/
def hi (x : FVec F S1x256 .f32) : FVec F S1x256 .bf16 := truncf .bf16 x bitsLt_bf16_f32
def lo (x : FVec F S1x256 .f32) : FVec F S1x256 .f32 := subf x (extf .f32 (hi x) bitsLt_bf16_f32)

/-- A piece as the rows of the augmented queries. -/
def bc (x : FVec F S1x256 .bf16) : FVec F S16x256 .f32 :=
  broadcastTo S16x256 (shapeCast S1x256 (extf .f32 x bitsLt_bf16_f32) shapeCasts_S1x256_S1x256) broadcasts_S1x256_S16x256

def rq : IVec S16x256 32 := iota .tc S16x256 32 [0] iota_S16x256_d0_w32

/-- The sixteen augmented query rows: ones against the keys' three pieces, and the queries' own three pieces. -/
def slots (x : FVec F S1x256 .f32) (a b c d f : BitVec 32) : FVec F S16x256 .bf16 :=
  truncf .bf16
    (select (cmpi .eq rq (broadcast S16x256 f)) (bc (hi (lo (lo x))))
      (select (cmpi .eq rq (broadcast S16x256 d)) (bc (hi (lo x)))
        (select (cmpi .eq rq (broadcast S16x256 c)) (bc (hi x))
          (select (andi (cmpi .sge rq (broadcast S16x256 a)) (cmpi .slt rq (broadcast S16x256 b)))
            (broadcast S16x256 (Scalar.ofBits .f32 0x3F800000#32)) (broadcast S16x256 (Scalar.ofBits .f32 0x00000000#32))))))
    bitsLt_bf16_f32

def zq : FVec F S64x256 .bf16 := broadcast S64x256 (Scalar.ofBits .bf16 0x0000#16)

/-- A tile's augmented queries, one column a query: its own head's rows, zeros in the other head's, and the gate rows. -/
def qa (e : Fin 2) (i : Fin 8) : FVec F S144x256 .bf16 :=
  match e with
  | 0 => concatenate S144x256 0 [⟨S64x256, shapeCast S64x256 (E.q 0 i) shapeCasts_S1x1x64x256_S64x256⟩, ⟨S64x256, zq⟩,
      ⟨S16x256, slots (cfq E 0 i) 0#32 3#32 3#32 4#32 5#32⟩] concatenates_S64x256_S64x256_S16x256_S144x256_d0
  | 1 => concatenate S144x256 0 [⟨S64x256, zq⟩, ⟨S64x256, shapeCast S64x256 (E.q 1 i) shapeCasts_S1x1x64x256_S64x256⟩,
      ⟨S16x256, slots (cfq E 1 i) 6#32 9#32 9#32 10#32 11#32⟩] concatenates_S64x256_S64x256_S16x256_S144x256_d0

/-- The scores of a block of prompt keys (rows) against a tile's queries (columns), and the same with the keys after the query masked. -/
def raw (e : Fin 2) (i c : Fin 8) : FVec F S256x256 .f32 :=
  matmul dot_S256x144_S144x256_S256x256_1_0_0_1_n_n none (E.k c) (qa E e i) (constant S256x256 .f32 0x00000000#32)
def diag (e : Fin 2) (i : Fin 8) : FVec F S256x256 .f32 :=
  select (cmpi .sle (iota .tc S256x256 32 [0] iota_S256x256_d0_w32) (iota .tc S256x256 32 [1] iota_S256x256_d1_w32)) (raw E e i i)
    (broadcast S256x256 (Named.named κ "mask" 0xF149F2CA#32))
/-- The scores of the sixteen leading keys. -/
def sink16 (e : Fin 2) (i : Fin 8) : FVec F S16x256 .f32 :=
  matmul dot_S16x144_S144x256_S16x256_1_0_0_1_n_n none E.km (qa E e i) (constant S16x256 .f32 0x00000000#32)

/-- The largest score of each query over a block. -/
def top (s : FVec F S256x256 .f32) : FVec F S1x256 .f32 :=
  shapeCast S1x256 (multiReduction .maximumf [0] S256 s 0xFF800000#32 reduces_S256x256_S256 (.inl rfl) rfl) shapeCasts_S256_S1x256
def top16 (s : FVec F S16x256 .f32) : FVec F S1x256 .f32 :=
  shapeCast S1x256 (multiReduction .maximumf [0] S256 s 0xFF800000#32 reduces_S16x256_S256 (.inl rfl) rfl) shapeCasts_S256_S1x256

/-- The largest score over the first `n` full blocks and then the block `s`. -/
def topRun (e : Fin 2) (i : Fin 8) (s : FVec F S256x256 .f32) : ℕ → FVec F S1x256 .f32
  | 0 => top s
  | n + 1 => maximumf (topRun e i (raw E e i (Fin.ofNat 8 n)) n) (top s)

def top_all (e : Fin 2) (i : Fin 8) : FVec F S1x256 .f32 :=
  maximumf (topRun E e i (diag E e i) i.val) (top16 (sink16 E e i))

/-- A block's values against its weights. -/
def part (e : Fin 2) (i c : Fin 8) : FVec F S80x256 .f32 :=
  matmul dot_S80x256_S256x256_S80x256_1_0_0_1_n_n none (shapeCast S80x256 (E.v e c) shapeCasts_S1x80x256_S80x256)
    (truncf .bf16 (exp2 (subf (shapeCast S256x256 (E.s e i c) shapeCasts_S1x1x256x256_S256x256)
      (broadcastTo S256x256 (top_all E e i) broadcasts_S1x256_S256x256))) bitsLt_bf16_f32)
    (constant S80x256 .f32 0x00000000#32)
def part16 (e : Fin 2) (i : Fin 8) : FVec F S80x256 .f32 :=
  matmul dot_S80x16_S16x256_S80x256_1_0_0_1_n_n none (shapeCast S80x16 (E.vm e) shapeCasts_S1x80x16_S80x16)
    (truncf .bf16 (exp2 (subf (shapeCast S16x256 (E.s16 e i) shapeCasts_S1x1x16x256_S16x256)
      (broadcastTo S16x256 (top_all E e i) broadcasts_S1x256_S16x256))) bitsLt_bf16_f32)
    (constant S80x256 .f32 0x00000000#32)

/-- The values against the weights over the blocks `0` to `n`. -/
def partRun (e : Fin 2) (i : Fin 8) : ℕ → FVec F S80x256 .f32
  | 0 => part E e i 0
  | n + 1 => addf (partRun e i n) (part E e i (Fin.ofNat 8 (n + 1)))

def part_all (e : Fin 2) (i : Fin 8) : FVec F S80x256 .f32 :=
  addf (partRun E e i i.val) (part16 E e i)

/-- A head's output for a tile: the weighted values over the weights' total (the values' row of ones). -/
def head (e : Fin 2) (i : Fin 8) : FVec F S64x256 .f32 :=
  divf (extractStridedSlice S64x256 ![0, 0] (part_all E e i) slices_S80x256_o0_0_S64x256)
    (broadcastTo S64x256 (extractStridedSlice S1x256 ![64, 0] (part_all E e i) slices_S80x256_o64_0_S1x256) broadcasts_S1x256_S64x256)

/-- Both heads of a tile, one row a query. -/
def tile (i : Fin 8) : FVec F S1x256x128 .bf16 :=
  shapeCast S1x256x128 (truncf .bf16 (transpose S256x128 [1, 0]
    (concatenate S128x256 0 [⟨S64x256, head E 0 i⟩, ⟨S64x256, head E 1 i⟩] concatenates_S64x256_S64x256_S128x256_d0)
    transposes_S128x256_p1_0_S256x128) bitsLt_bf16_f32) shapeCasts_S256x128_S1x256x128

end Cert.KernelIdeal.Tile

end
-- ==== Proof.TileRun.lean ====
/- The run's stores of the attention's output are the tiles of Proof/Tile.lean. -/
module

public import proofs.«01_k».proof.Proof.Tile
public import proofs.«01_k».proof.Proof.Gen.KernelIdeal.Frame
import Idealize.ShloMosaic.Lib.Pipeline.ValueKit
import Idealize.ShloMosaic.Lib.Pipeline.ReadBack

@[expose] public section

set_option maxRecDepth 16384

noncomputable section

namespace Cert.KernelIdeal.Tile

open Idealize.ShloMosaic Idealize.ShloMosaic.TcCoe Idealize.SL.Sem Cert.KernelIdeal Cert.KernelIdeal.Gen

variable {F : FTy → Type} [FloatOps F] [Named F]

variable (c : Dev nD) (i : grid0.Coords)
  (arg2 : Memref sig .tc .vmem S1x2x64x2048 .bf16) (harg2 : arg2.IsWhole)
  (arg3 : Memref sig .tc .vmem S1x2x64x2064 .f32) (harg3 : arg3.IsWhole)
  (arg4 : Memref sig .tc .vmem S1x2x64x2064 .f32) (harg4 : arg4.IsWhole)
  (arg5 : Memref sig .tc .vmem S1x1x2x2176 .f32) (harg5 : arg5.IsWhole)
  (arg6 : Memref sig .tc .vmem S1x2048x128 .bf16) (harg6 : arg6.IsWhole)
  (arg7 : Memref sig .tc .vmem S2176x144 .bf16) (harg7 : arg7.IsWhole)
  (arg8 : Memref sig .tc .vmem S2x80x2176 .bf16) (harg8 : arg8.IsWhole)
  (arg9 : Memref sig .tc .vmem S128x2176 .f32) (harg9 : arg9.IsWhole)
  (arg10 : Memref sig .tc .vmem S2x9x256x256 .f32) (harg10 : arg10.IsWhole)
      (x0 : Vec F S1x2x64x2048 .bf16) (x1 : Vec F S1x2x64x2064 .f32) (x2 : Vec F S1x2x64x2064 .f32) (x3 : Vec F S1x1x2x2176 .f32)

theorem inb_q (e : Fin 2) (i : Fin 8) : ∀ a, (![0, e.val, 0, 256 * i.val] : Fin 4 → Nat) a + S1x1x64x256.size a ≤ S1x2x64x2048.size a := by
  revert e i; decide
theorem inb_k (i : Fin 8) : ∀ a, (![256 * i.val, 0] : Fin 2 → Nat) a + S256x144.size a ≤ S2176x144.size a := by
  revert i; decide
theorem inb_v (e : Fin 2) (i : Fin 8) : ∀ a, (![e.val, 0, 256 * i.val] : Fin 3 → Nat) a + S1x80x256.size a ≤ S2x80x2176.size a := by
  revert e i; decide
theorem inb_vm (e : Fin 2) : ∀ a, (![e.val, 0, 2048] : Fin 3 → Nat) a + S1x80x16.size a ≤ S2x80x2176.size a := by
  revert e; decide

theorem inb_s (e : Fin 2) (b : Fin 8) : ∀ a, (![e.val, b.val, 0, 0] : Fin 4 → Nat) a + S1x1x256x256.size a ≤ S2x9x256x256.size a := by
  revert e b; decide
theorem inb_s16 (e : Fin 2) (t : Fin 8) : ∀ a, (![e.val, t.val + 1, 0, 0] : Fin 4 → Nat) a + S1x1x16x256.size a ≤ S2x9x256x256.size a := by
  revert e t; decide

theorem inb_o (t : Fin 8) : ∀ a, (![0, 256 * t.val, 0] : Fin 3 → Nat) a + S1x256x128.size a ≤ S1x2048x128.size a := by
  revert t; decide

/-- How many blocks of scores the items before item `n` store: each stores its prompt blocks and the sixteen leading keys. -/
def before : ℕ → ℕ
  | 0 => 0
  | n + 1 => before n + (n / 2 + 2)

/-- How many blocks of scores are stored when an item's block `b` is read: those of the items up to it, and the next item's blocks up to `b`. -/
def stored (e : Fin 2) (t : Fin 8) (b : ℕ) : ℕ :=
  before (2 * t.val + e.val + 1) + if 2 * t.val + e.val + 1 < 16 then min (b + 1) ((2 * t.val + e.val + 1) / 2 + 2) else 0

/-- The blocks a grid point loads from its inputs and from the three buffers it fills. -/
def src : Src F where
  cf := k0_pay2 (View.readAt (Elt F) arg5.view (Rect.unit ![0, 0, 0, 0] S1x1x2x2176.size inb_S1x1x2x2176_S1x1x2x2176_0_0_0_0).toLoadRect (harg5.unread x3))
  q e t := View.readAt (Elt F) arg2.view (Rect.unit (s := S1x2x64x2048) ![0, e.val, 0, 256 * t.val] S1x1x64x256.size (inb_q e t)).toLoadRect (harg2.unread x0)
  k t := arg7.view.readCov (kernelRun0_A c i arg2 harg2 arg3 harg3 arg4 harg4 arg5 harg5 arg6 harg6 arg7 harg7 arg8 harg8 arg9 harg9 arg10 harg10 x0 x1 x2 x3).2.1 (Rect.unit (s := S2176x144) ![256 * t.val, 0] S256x144.size (inb_k t)).toLoadRect
  km := arg7.view.readCov (kernelRun0_A c i arg2 harg2 arg3 harg3 arg4 harg4 arg5 harg5 arg6 harg6 arg7 harg7 arg8 harg8 arg9 harg9 arg10 harg10 x0 x1 x2 x3).2.1 (Rect.unit (s := S2176x144) ![2048, 0] S16x144.size inb_S2176x144_S16x144_2048_0).toLoadRect
  v e t := arg8.view.readCov (kernelRun0_A c i arg2 harg2 arg3 harg3 arg4 harg4 arg5 harg5 arg6 harg6 arg7 harg7 arg8 harg8 arg9 harg9 arg10 harg10 x0 x1 x2 x3).2.2.1 (Rect.unit (s := S2x80x2176) ![e.val, 0, 256 * t.val] S1x80x256.size (inb_v e t)).toLoadRect
  vm e := arg8.view.readCov (kernelRun0_A c i arg2 harg2 arg3 harg3 arg4 harg4 arg5 harg5 arg6 harg6 arg7 harg7 arg8 harg8 arg9 harg9 arg10 harg10 x0 x1 x2 x3).2.2.1 (Rect.unit (s := S2x80x2176) ![e.val, 0, 2048] S1x80x16.size (inb_vm e)).toLoadRect
  s e t b := arg10.view.readCov ((kernelRun0_A c i arg2 harg2 arg3 harg3 arg4 harg4 arg5 harg5 arg6 harg6 arg7 harg7 arg8 harg8 arg9 harg9 arg10 harg10 x0 x1 x2 x3).2.2.2.2.1.drop (88 - stored e t b)) (Rect.unit (s := S2x9x256x256) ![e.val, b.val, 0, 0] S1x1x256x256.size (inb_s e b)).toLoadRect
  s16 e t := arg10.view.readCov ((kernelRun0_A c i arg2 harg2 arg3 harg3 arg4 harg4 arg5 harg5 arg6 harg6 arg7 harg7 arg8 harg8 arg9 harg9 arg10 harg10 x0 x1 x2 x3).2.2.2.2.1.drop (88 - stored e t (t.val + 1))) (Rect.unit (s := S2x9x256x256) ![e.val, t.val + 1, 0, 0] S1x1x16x256.size (inb_s16 e t)).toLoadRect

/-- The run's eight stores of the output are the eight tiles. -/
theorem pieces : (kernelRun0_A c i arg2 harg2 arg3 harg3 arg4 harg4 arg5 harg5 arg6 harg6 arg7 harg7 arg8 harg8 arg9 harg9 arg10 harg10 x0 x1 x2 x3).1 = (List.finRange 8).reverse.map fun t =>
    ⟨Rect.unit (s := S1x2048x128) ![0, 256 * t.val, 0] S1x256x128.size (inb_o t), tile (src c i arg2 harg2 arg3 harg3 arg4 harg4 arg5 harg5 arg6 harg6 arg7 harg7 arg8 harg8 arg9 harg9 arg10 harg10 x0 x1 x2 x3) t⟩ := by
  sl_kernel_rfl

/-- A load of exactly a stored block, over later stores elsewhere, reads that block. -/
theorem readCov_at {sig : RefSig} {κ : Kind} {Val : EltTy → Type} {sp : Space} {s : Shape} {e : EltTy} [∀ e, Nonempty (Val e)] (v : View sig κ sp s e)
    (R : Rect s) (w : R.shape.Idx → Val e) : ∀ (n : ℕ) (L L' : List (View.Piece Val s e)), L.drop n = ⟨R, w⟩ :: L' →
      (L.take n).all (fun p => LoadRect.disj p.1 R.toLoadRect) = true → v.readCov L R.toLoadRect = w
  | 0, L, L', h, _ => by rw [show L = ⟨R, w⟩ :: L' from h]; exact View.readCov_cons_toLoadRect v R w L'
  | n + 1, [], L', h, _ => by simp at h
  | n + 1, ⟨r, x⟩ :: L, L', h, hd => by
    rw [List.take_succ_cons, List.all_cons, Bool.and_eq_true] at hd
    rw [View.readCov_skip v r x L _ hd.1]
    exact readCov_at v R w n L L' h hd.2

/-- The blocks of an item: head, tile and prompt block up to the tile's own. -/
def blocks : List (Fin 2 × Fin 8 × Fin 8) :=
  ((List.finRange 2).flatMap fun e => (List.finRange 8).flatMap fun t => (List.finRange 8).map fun b => (e, t, b)).filter fun x => x.2.2 ≤ x.2.1

/-- The number of stores up to an item's block `b`. -/
def at_ (e : Fin 2) (t : Fin 8) (b : ℕ) : ℕ := before (2 * t.val + e.val) + b + 1

/-- The scores as stored: the masked ones in the tile's own block. -/
def sc (E : Src F) (e : Fin 2) (t b : Fin 8) : FVec F S256x256 .f32 := if b = t then diag E e t else raw E e t b

/-- The stores of the prompt blocks' scores, each in its place in the run. -/
theorem stores_s : (blocks.map fun x => (kernelRun0_A c i arg2 harg2 arg3 harg3 arg4 harg4 arg5 harg5 arg6 harg6 arg7 harg7 arg8 harg8 arg9 harg9 arg10 harg10 x0 x1 x2 x3).2.2.2.2.1.drop (88 - at_ x.1 x.2.1 x.2.2.val))
    = blocks.map fun x => ⟨Rect.unit (s := S2x9x256x256) ![x.1.val, x.2.2.val, 0, 0] S1x1x256x256.size (inb_s x.1 x.2.2),
        shapeCast S1x1x256x256 (sc (src c i arg2 harg2 arg3 harg3 arg4 harg4 arg5 harg5 arg6 harg6 arg7 harg7 arg8 harg8 arg9 harg9 arg10 harg10 x0 x1 x2 x3) x.1 x.2.1 x.2.2) shapeCasts_S256x256_S1x1x256x256⟩
          :: (kernelRun0_A c i arg2 harg2 arg3 harg3 arg4 harg4 arg5 harg5 arg6 harg6 arg7 harg7 arg8 harg8 arg9 harg9 arg10 harg10 x0 x1 x2 x3).2.2.2.2.1.drop (89 - at_ x.1 x.2.1 x.2.2.val) := by
  sl_kernel_rfl

/-- Between a block's store and its load, every store is elsewhere. -/
theorem apart_s : (blocks.all fun x => (((kernelRun0_A c i arg2 harg2 arg3 harg3 arg4 harg4 arg5 harg5 arg6 harg6 arg7 harg7 arg8 harg8 arg9 harg9 arg10 harg10 x0 x1 x2 x3).2.2.2.2.1.drop (88 - stored x.1 x.2.1 x.2.2.val)).take (stored x.1 x.2.1 x.2.2.val - at_ x.1 x.2.1 x.2.2.val)).all
    fun p => LoadRect.disj p.1 (Rect.unit (s := S2x9x256x256) ![x.1.val, x.2.2.val, 0, 0] S1x1x256x256.size (inb_s x.1 x.2.2)).toLoadRect) = true := by
  sl_kernel_rfl

/-- The stores of the sixteen leading keys' scores. -/
theorem stores_s16 : (blocks.map fun x => (kernelRun0_A c i arg2 harg2 arg3 harg3 arg4 harg4 arg5 harg5 arg6 harg6 arg7 harg7 arg8 harg8 arg9 harg9 arg10 harg10 x0 x1 x2 x3).2.2.2.2.1.drop (88 - at_ x.1 x.2.1 (x.2.1.val + 1)))
    = blocks.map fun x => ⟨Rect.unit (s := S2x9x256x256) ![x.1.val, x.2.1.val + 1, 0, 0] S1x1x16x256.size (inb_s16 x.1 x.2.1),
        shapeCast S1x1x16x256 (sink16 (src c i arg2 harg2 arg3 harg3 arg4 harg4 arg5 harg5 arg6 harg6 arg7 harg7 arg8 harg8 arg9 harg9 arg10 harg10 x0 x1 x2 x3) x.1 x.2.1) shapeCasts_S16x256_S1x1x16x256⟩
          :: (kernelRun0_A c i arg2 harg2 arg3 harg3 arg4 harg4 arg5 harg5 arg6 harg6 arg7 harg7 arg8 harg8 arg9 harg9 arg10 harg10 x0 x1 x2 x3).2.2.2.2.1.drop (89 - at_ x.1 x.2.1 (x.2.1.val + 1)) := by
  sl_kernel_rfl

theorem apart_s16 : (blocks.all fun x => (((kernelRun0_A c i arg2 harg2 arg3 harg3 arg4 harg4 arg5 harg5 arg6 harg6 arg7 harg7 arg8 harg8 arg9 harg9 arg10 harg10 x0 x1 x2 x3).2.2.2.2.1.drop (88 - stored x.1 x.2.1 (x.2.1.val + 1))).take (stored x.1 x.2.1 (x.2.1.val + 1) - at_ x.1 x.2.1 (x.2.1.val + 1))).all
    fun p => LoadRect.disj p.1 (Rect.unit (s := S2x9x256x256) ![x.1.val, x.2.1.val + 1, 0, 0] S1x1x16x256.size (inb_s16 x.1 x.2.1)).toLoadRect) = true := by
  sl_kernel_rfl

theorem at_le (e : Fin 2) (t : Fin 8) (b : Fin 9) (h : b.val ≤ t.val + 1) : at_ e t b ≤ stored e t b ∧ stored e t b ≤ 88 ∧ 1 ≤ at_ e t b := by
  revert e t b; decide

theorem mem_blocks (e : Fin 2) (t b : Fin 8) (h : b ≤ t) : (e, t, b) ∈ blocks := by
  simp [blocks, h]

theorem drop_to {α : Type} (L : List α) {a b : ℕ} (h : a ≤ b) (hb : b ≤ 88) : (L.drop (88 - b)).drop (b - a) = L.drop (88 - a) := by
  rw [List.drop_drop, show 88 - b + (b - a) = 88 - a by omega]

/-- A prompt block's scores, loaded in the second pass, are those the first pass stored. -/
theorem s_eq (e : Fin 2) (t b : Fin 8) (h : b ≤ t) : (src c i arg2 harg2 arg3 harg3 arg4 harg4 arg5 harg5 arg6 harg6 arg7 harg7 arg8 harg8 arg9 harg9 arg10 harg10 x0 x1 x2 x3).s e t b
    = shapeCast S1x1x256x256 (sc (src c i arg2 harg2 arg3 harg3 arg4 harg4 arg5 harg5 arg6 harg6 arg7 harg7 arg8 harg8 arg9 harg9 arg10 harg10 x0 x1 x2 x3) e t b) shapeCasts_S256x256_S1x1x256x256 := by
  have hb := at_le e t ⟨b.val, by omega⟩ (by have : b.val ≤ t.val := h; simp; omega)
  simp only at hb
  show arg10.view.readCov _ (Rect.unit (s := S2x9x256x256) ![e.val, b.val, 0, 0] S1x1x256x256.size (inb_s e b)).toLoadRect = _
  refine readCov_at arg10.view (Rect.unit (s := S2x9x256x256) ![e.val, b.val, 0, 0] S1x1x256x256.size (inb_s e b)) _ (stored e t b.val - at_ e t b.val) _ ((kernelRun0_A c i arg2 harg2 arg3 harg3 arg4 harg4 arg5 harg5 arg6 harg6 arg7 harg7 arg8 harg8 arg9 harg9 arg10 harg10 x0 x1 x2 x3).2.2.2.2.1.drop (89 - at_ e t b.val)) ?_ ?_
  · have := List.map_inj_left.mp (stores_s c i arg2 harg2 arg3 harg3 arg4 harg4 arg5 harg5 arg6 harg6 arg7 harg7 arg8 harg8 arg9 harg9 arg10 harg10 x0 x1 x2 x3) _ (mem_blocks e t b h)
    exact (drop_to _ hb.1 hb.2.1).trans this
  · exact List.all_eq_true.mp (apart_s c i arg2 harg2 arg3 harg3 arg4 harg4 arg5 harg5 arg6 harg6 arg7 harg7 arg8 harg8 arg9 harg9 arg10 harg10 x0 x1 x2 x3) _ (mem_blocks e t b h)

/-- And so are the sixteen leading keys'. -/
theorem s16_eq (e : Fin 2) (t : Fin 8) : (src c i arg2 harg2 arg3 harg3 arg4 harg4 arg5 harg5 arg6 harg6 arg7 harg7 arg8 harg8 arg9 harg9 arg10 harg10 x0 x1 x2 x3).s16 e t
    = shapeCast S1x1x16x256 (sink16 (src c i arg2 harg2 arg3 harg3 arg4 harg4 arg5 harg5 arg6 harg6 arg7 harg7 arg8 harg8 arg9 harg9 arg10 harg10 x0 x1 x2 x3) e t) shapeCasts_S16x256_S1x1x16x256 := by
  have hb := at_le e t ⟨t.val + 1, by omega⟩ (by simp)
  simp only at hb
  show arg10.view.readCov _ (Rect.unit (s := S2x9x256x256) ![e.val, t.val + 1, 0, 0] S1x1x16x256.size (inb_s16 e t)).toLoadRect = _
  refine readCov_at arg10.view (Rect.unit (s := S2x9x256x256) ![e.val, t.val + 1, 0, 0] S1x1x16x256.size (inb_s16 e t)) _ (stored e t (t.val + 1) - at_ e t (t.val + 1)) _ ((kernelRun0_A c i arg2 harg2 arg3 harg3 arg4 harg4 arg5 harg5 arg6 harg6 arg7 harg7 arg8 harg8 arg9 harg9 arg10 harg10 x0 x1 x2 x3).2.2.2.2.1.drop (89 - at_ e t (t.val + 1))) ?_ ?_
  · have := List.map_inj_left.mp (stores_s16 c i arg2 harg2 arg3 harg3 arg4 harg4 arg5 harg5 arg6 harg6 arg7 harg7 arg8 harg8 arg9 harg9 arg10 harg10 x0 x1 x2 x3) _ (mem_blocks e t t le_rfl)
    exact (drop_to _ hb.1 hb.2.1).trans this
  · exact List.all_eq_true.mp (apart_s16 c i arg2 harg2 arg3 harg3 arg4 harg4 arg5 harg5 arg6 harg6 arg7 harg7 arg8 harg8 arg9 harg9 arg10 harg10 x0 x1 x2 x3) _ (mem_blocks e t t le_rfl)

/-- The gate sums, in kernel order. -/
def cfOf : FVec F S2x2176 .f32 :=
  k0_pay2 (View.readAt (Elt F) arg5.view (Rect.unit ![0, 0, 0, 0] S1x1x2x2176.size inb_S1x1x2x2176_S1x1x2x2176_0_0_0_0).toLoadRect (harg5.unread x3))

/-- The stores that fill the transposed keys: prompt, leading, padding. -/
def keyL : List (View.Piece (Elt F) S128x2176 .f32) :=
  [⟨Rect.unit (s := S128x2176) ![0, 2064] S128x112.size inb_S128x2176_S128x112_0_2064, k0_pay5⟩,
    ⟨Rect.unit (s := S128x2176) ![0, 2048] S128x16.size inb_S128x2176_S128x16_0_2048, k0_pay4 (View.readAt (Elt F) arg3.view (Rect.unit (s := S1x2x64x2064) ![0, 0, 0, 0] S1x2x64x16.size inb_S1x2x64x2064_S1x2x64x16_0_0_0_0).toLoadRect (harg3.unread x1))⟩,
    ⟨Rect.unit (s := S128x2176) ![0, 0] S128x2048.size inb_S128x2176_S128x2048_0_0, k0_pay3 (View.readAt (Elt F) arg3.view (Rect.unit (s := S1x2x64x2064) ![0, 0, 0, 16] S1x2x64x2048.size inb_S1x2x64x2064_S1x2x64x2048_0_0_0_16).toLoadRect (harg3.unread x1))⟩]

/-- The augmented keys: the keys in the first columns, the gate pieces in the last sixteen. -/
theorem kaL_eq : (kernelRun0_A c i arg2 harg2 arg3 harg3 arg4 harg4 arg5 harg5 arg6 harg6 arg7 harg7 arg8 harg8 arg9 harg9 arg10 harg10 x0 x1 x2 x3).2.1 = [⟨Rect.unit (s := S2176x144) ![0, 128] S2176x16.size inb_S2176x144_S2176x16_0_128,
      k0_pay16 (iota .tc S16x2176 32 [0] iota_S16x2176_d0_w32) (k0_pay8 (cfOf arg5 harg5 x3) (iota .tc S16x2176 32 [0] iota_S16x2176_d0_w32) k0_pay6 k0_pay7)
        (k0_pay12 (cfOf arg5 harg5 x3)) (k0_pay13 (cfOf arg5 harg5 x3)) (k0_pay14 (cfOf arg5 harg5 x3))⟩,
    ⟨Rect.unit (s := S2176x144) ![0, 0] S2176x128.size inb_S2176x144_S2176x128_0_0,
      k0_pay15 (arg9.view.readCov (keyL arg3 harg3 x1) (Rect.unit (s := S128x2176) ![0, 0] S128x2176.size inb_S128x2176_S128x2176_0_0).toLoadRect)⟩] := by
  sl_kernel_rfl

/-- The augmented values: the values in the first sixty-four rows of each head, then a row of ones over rows of zeros. -/
theorem vaL_eq : (kernelRun0_A c i arg2 harg2 arg3 harg3 arg4 harg4 arg5 harg5 arg6 harg6 arg7 harg7 arg8 harg8 arg9 harg9 arg10 harg10 x0 x1 x2 x3).2.2.1 = [⟨Rect.unit (s := S2x80x2176) ![0, 64, 0] S2x16x2176.size inb_S2x80x2176_S2x16x2176_0_64_0, k0_pay21⟩,
    ⟨Rect.unit (s := S2x80x2176) ![0, 0, 2064] S2x64x112.size inb_S2x80x2176_S2x64x112_0_0_2064, k0_pay20⟩,
    ⟨Rect.unit (s := S2x80x2176) ![0, 0, 2048] S2x64x16.size inb_S2x80x2176_S2x64x16_0_0_2048,
      k0_pay19 (View.readAt (Elt F) arg4.view (Rect.unit (s := S1x2x64x2064) ![0, 0, 0, 0] S1x2x64x16.size inb_S1x2x64x2064_S1x2x64x16_0_0_0_0).toLoadRect (harg4.unread x2))⟩,
    ⟨Rect.unit (s := S2x80x2176) ![0, 0, 0] S2x64x2048.size inb_S2x80x2176_S2x64x2048_0_0_0,
      k0_pay18 (k0_pay17 (View.readAt (Elt F) arg4.view (Rect.unit (s := S1x2x64x2064) ![0, 0, 0, 16] S1x2x64x2048.size inb_S1x2x64x2064_S1x2x64x2048_0_0_0_16).toLoadRect (harg4.unread x2)))⟩] := by
  sl_kernel_rfl

end Cert.KernelIdeal.Tile

end
-- ==== Proof.TileBuf.lean ====
/- The buffers a grid point of the attention kernel fills, at an index over the reals. -/
module

public import proofs.«01_k».proof.Proof.TileRun
public import Idealize.ShloMosaic.Lib.Pipeline.ValueKit
public import Idealize.ShloMosaic.Lib.Pointwise

@[expose] public section

set_option maxRecDepth 16384

noncomputable section

namespace Cert.KernelIdeal.Tile

open Idealize.ShloMosaic Idealize.ShloMosaic.TcCoe Idealize.SL.Sem Cert.KernelIdeal Cert.KernelIdeal.Gen
open scoped BigOperators

/-- 1 / log 2. -/
abbrev L2 : EReal := (((Real.log 2)⁻¹ : ℝ) : EReal)

theorem log2e_eq : Named.named (F := Ideal) κ "log2e" (φ := .f32) 0x3FB8AA3B#32 = L2 :=
  IdealRules.named_const.ideal_named_scalar _ _ _ _ rfl

theorem mask_eq : Named.named (F := Ideal) κ "mask" (φ := .f32) 0xF149F2CA#32 = (⊥ : EReal) :=
  IdealRules.named_const.ideal_named_scalar _ _ _ _ rfl

/-- The kernel order of a row of positions: the prompt's first, then the sixteen leading ones, then padding with zeros. -/
def ord (f : Fin 2064 → EReal) (n : ℕ) : EReal :=
  if h : n < 2048 then f ⟨16 + n, by omega⟩ else if h' : n < 2064 then f ⟨n - 2048, by omega⟩ else 0

section
variable (arg5 : Memref sig .tc .vmem S1x1x2x2176 .f32) (harg5 : arg5.IsWhole) (x3 : Vec Ideal S1x1x2x2176 .f32)

theorem cf_apply (e : Fin 2) (n : Fin 2176) : cfOf arg5 harg5 x3 (ix2 e n)
    = ord (fun j => (show EReal from x3 (ix4 0 0 e ⟨j.val, by omega⟩)) * L2) n.val := by
  unfold cfOf
  rw [View.readAt_eq_ld, Memref.IsWhole.read_unread]
  pointwise [k0_pay2]
  rw [log2e_eq]
  unfold ord
  by_cases h : n.val < 2048
  · rw [dif_pos h, dif_pos h]
  · rw [dif_neg h, dif_neg h]
    by_cases h' : n.val < 2064
    · rw [dif_pos (by omega), dif_pos h']
    · rw [dif_neg (by omega), dif_neg h']
end

section
variable (arg3 : Memref sig .tc .vmem S1x2x64x2064 .f32) (harg3 : arg3.IsWhole) (X : Vec Ideal S1x2x64x2064 .f32)

/-- The transposed keys at a row (head and feature) and a position in kernel order. -/
theorem key_apply (r : Fin 128) (n : Fin 2176) : View.canon (keyL arg3 harg3 X) (ix2 r n)
    = ord (fun j => (show EReal from X (ix4 0 ⟨r.val / 64, by omega⟩ ⟨r.val % 64, by omega⟩ j))) n.val := by
  unfold keyL
  canon_tiles x h using (View.cover_of_tiledBy _ ![128, 16] (by sl_kernel_rfl) (ix2 r n))
  all_goals rw [ord]
  all_goals idx_vars x
  · pointwise [k0_pay5]
    rw [dif_neg (by omega), dif_neg (by omega)]
  · rw [View.readAt_eq_ld, Memref.IsWhole.read_unread]
    pointwise [k0_pay4]
    obtain rfl : r = x0 := Fin.ext h0
    rw [dif_neg (by omega), dif_pos (by omega)]
    congr 2
    exact Fin.ext (by simp only []; omega)
  · rw [View.readAt_eq_ld, Memref.IsWhole.read_unread]
    pointwise [k0_pay3]
    obtain rfl : r = x0 := Fin.ext h0
    rw [dif_pos (by omega)]
    congr 2
    exact Fin.ext (by simp only []; omega)

end

/-- The kernel order of real numbers. -/
def ordR (f : Fin 2064 → ℝ) (n : ℕ) : ℝ :=
  if h : n < 2048 then f ⟨16 + n, by omega⟩ else if h' : n < 2064 then f ⟨n - 2048, by omega⟩ else 0

theorem ord_coe (f : Fin 2064 → EReal) (g : Fin 2064 → ℝ) (h : ∀ j, f j = (g j : EReal)) (n : ℕ) : ord f n = (ordR g n : EReal) := by
  unfold ord ordR
  split_ifs
  · exact h _
  · exact h _
  · rfl

/-- The sixteen gate columns of the augmented keys: minus the gate sums against the queries' ones, ones against the queries' gate sums. -/
def ksR (a b : ℝ) (u : ℕ) : ℝ :=
  if u = 0 then -a else if u = 6 then -b else if (3 ≤ u ∧ u < 6) ∨ (9 ≤ u ∧ u < 12) then 1 else 0

theorem coe_sub_self (a : ℝ) : (a : EReal) - a = 0 := by rw [← EReal.coe_sub, sub_self, EReal.coe_zero]

theorem slots_apply (cf : FVec Ideal S2x2176 .f32) (n : Fin 2176) (u : Fin 16) (a b : ℝ) (ha : cf (ix2 0 n) = (a : EReal)) (hb : cf (ix2 1 n) = (b : EReal)) :
    k0_pay16 (iota .tc S16x2176 32 [0] iota_S16x2176_d0_w32) (k0_pay8 cf (iota .tc S16x2176 32 [0] iota_S16x2176_d0_w32) k0_pay6 k0_pay7)
        (k0_pay12 cf) (k0_pay13 cf) (k0_pay14 cf) (ix2 n u) = (ksR a b u.val : EReal) := by
  pointwise [k0_pay16, k0_pay8, k0_pay6, k0_pay7, k0_pay9, k0_pay10, k0_pay11, k0_pay12, k0_pay13, k0_pay14]
  rw [ha, hb]
  simp only [coe_sub_self, sub_zero, zero_sub]
  unfold ksR
  fin_vals u with hk
  all_goals rw [hk]
  all_goals first | rfl | exact neg_zero

/-- The real numbers behind a grid point's keys, gate sums and queries. -/
structure Reals (x0 : Vec Ideal S1x2x64x2048 .bf16) (x1 : Vec Ideal S1x2x64x2064 .f32) (x3 : Vec Ideal S1x1x2x2176 .f32) where
  q : Fin 2 → Fin 64 → Fin 2048 → ℝ
  k : Fin 2 → Fin 64 → Fin 2064 → ℝ
  g : Fin 2 → Fin 2064 → ℝ
  hq : ∀ e d j, x0 (ix4 0 e d j) = (q e d j : EReal)
  hk : ∀ e d j, x1 (ix4 0 e d j) = (k e d j : EReal)
  hg : ∀ e (j : Fin 2064), x3 (ix4 0 0 e ⟨j.val, by omega⟩) = (g e j : EReal)

section
variable {x0 : Vec Ideal S1x2x64x2048 .bf16} {x1 : Vec Ideal S1x2x64x2064 .f32} {x3 : Vec Ideal S1x1x2x2176 .f32} (R : Reals x0 x1 x3)

/-- The gate sums over log 2, in kernel order. -/
def Reals.cf (e : Fin 2) (n : ℕ) : ℝ := ordR (fun j => R.g e j * (Real.log 2)⁻¹) n

theorem cf_real (arg5 : Memref sig .tc .vmem S1x1x2x2176 .f32) (harg5 : arg5.IsWhole) (e : Fin 2) (n : Fin 2176) :
    cfOf arg5 harg5 x3 (ix2 e n) = (R.cf e n.val : EReal) := by
  rw [cf_apply]
  refine ord_coe _ _ (fun j => ?_) _
  rw [R.hg, EReal.coe_mul]

/-- The augmented keys. -/
def Reals.ka (n u : ℕ) : ℝ :=
  if u < 128 then ordR (R.k (Fin.ofNat 2 (u / 64)) (Fin.ofNat 64 u)) n else ksR (R.cf 0 n) (R.cf 1 n) (u - 128)
end

/-- The augmented values: the values, a row of ones, zeros. -/
def va (x2 : Vec Ideal S1x2x64x2064 .f32) (e : Fin 2) (r n : ℕ) : EReal :=
  if h : r < 64 then ord (fun j => x2 (ix4 0 e ⟨r, h⟩ j)) n else if r = 64 then 1 else 0

/-- Loads of the augmented keys' and values' buffers, at an index: the contents at the index placed. -/
theorem load_k (v : View sig .tc .vmem S2176x144 .bf16) (L : List (View.Piece (Elt Ideal) S2176x144 .bf16)) (G : ℕ → ℕ → EReal)
    (h : ∀ (n : Fin 2176) (u : Fin 144), View.canon (Val := Elt Ideal) L (ix2 n u) = G n.val u.val) (o m : ℕ)
    (inb : ∀ a, (![o, 0] : Fin 2 → ℕ) a + (⟨2, ![m, 144]⟩ : Shape).size a ≤ S2176x144.size a) (r : Fin m) (u : Fin 144) :
    v.readCov L (Rect.unit (s := S2176x144) ![o, 0] (⟨2, ![m, 144]⟩ : Shape).size inb).toLoadRect (ix2 r u) = G (o + r.val) u.val := by
  have hb : o + m ≤ 2176 := inb 0
  refine Eq.trans (congrFun (View.readCov_eq_canon' v L _) _) ?_
  refine Eq.trans (congrArg (View.canon L) (a₂ := ix2 ⟨o + r.val, by omega⟩ u) ?_) (h _ _)
  funext a; fin_cases a <;> exact Fin.ext (by simp [LoadRect.idx])

theorem load_v (v : View sig .tc .vmem S2x80x2176 .bf16) (L : List (View.Piece (Elt Ideal) S2x80x2176 .bf16)) (G : Fin 2 → ℕ → ℕ → EReal)
    (h : ∀ (e : Fin 2) (r : Fin 80) (n : Fin 2176), View.canon (Val := Elt Ideal) L (ix3 e r n) = G e r.val n.val) (e : Fin 2) (o m : ℕ)
    (inb : ∀ a, (![e.val, 0, o] : Fin 3 → ℕ) a + (⟨3, ![1, 80, m]⟩ : Shape).size a ≤ S2x80x2176.size a) (r : Fin 80) (n : Fin m) :
    v.readCov L (Rect.unit (s := S2x80x2176) ![e.val, 0, o] (⟨3, ![1, 80, m]⟩ : Shape).size inb).toLoadRect (ix3 0 r n) = G e r.val (o + n.val) := by
  have hb : o + m ≤ 2176 := inb 2
  refine Eq.trans (congrFun (View.readCov_eq_canon' v L _) _) ?_
  refine Eq.trans (congrArg (View.canon L) (a₂ := ix3 e r ⟨o + n.val, by omega⟩) ?_) (h _ _ _)
  funext a; fin_cases a <;> exact Fin.ext (by simp [LoadRect.idx])

section
variable (c : Dev nD) (i : grid0.Coords)
  (arg2 : Memref sig .tc .vmem S1x2x64x2048 .bf16) (harg2 : arg2.IsWhole)
  (arg3 : Memref sig .tc .vmem S1x2x64x2064 .f32) (harg3 : arg3.IsWhole)
  (arg4 : Memref sig .tc .vmem S1x2x64x2064 .f32) (harg4 : arg4.IsWhole)
  (arg5 : Memref sig .tc .vmem S1x1x2x2176 .f32) (harg5 : arg5.IsWhole)
  (arg6 : Memref sig .tc .vmem S1x2048x128 .bf16) (harg6 : arg6.IsWhole)
  (arg7 : Memref sig .tc .vmem S2176x144 .bf16) (harg7 : arg7.IsWhole)
  (arg8 : Memref sig .tc .vmem S2x80x2176 .bf16) (harg8 : arg8.IsWhole)
  (arg9 : Memref sig .tc .vmem S128x2176 .f32) (harg9 : arg9.IsWhole)
  (arg10 : Memref sig .tc .vmem S2x9x256x256 .f32) (harg10 : arg10.IsWhole)
  (x0 : Vec Ideal S1x2x64x2048 .bf16) (x1 : Vec Ideal S1x2x64x2064 .f32) (x2 : Vec Ideal S1x2x64x2064 .f32) (x3 : Vec Ideal S1x1x2x2176 .f32)
  (R : Reals x0 x1 x3)

theorem trs_apply (r : Fin 128) (n : Fin 2176) :
    arg9.view.readCov (keyL arg3 harg3 x1) (Rect.unit (s := S128x2176) ![0, 0] S128x2176.size inb_S128x2176_S128x2176_0_0).toLoadRect (ix2 r n)
      = (ordR (R.k ⟨r.val / 64, by omega⟩ ⟨r.val % 64, by omega⟩) n.val : EReal) := by
  rw [View.readCov_eq_canon']
  refine Eq.trans (congrArg (View.canon (keyL arg3 harg3 x1)) (a₂ := ix2 r n) ?_) ((key_apply arg3 harg3 x1 r n).trans (ord_coe _ _ (fun j => R.hk _ _ _) _))
  funext a; fin_cases a <;> exact Fin.ext (by simp [LoadRect.idx])

/-- The augmented keys' buffer, filled. -/
theorem ka_apply (n : Fin 2176) (u : Fin 144) : View.canon (kernelRun0_A c i arg2 harg2 arg3 harg3 arg4 harg4 arg5 harg5 arg6 harg6 arg7 harg7 arg8 harg8 arg9 harg9 arg10 harg10 x0 x1 x2 x3).2.1 (ix2 n u) = (R.ka n.val u.val : EReal) := by
  rw [kaL_eq]
  canon_tiles x h using (View.cover_of_tiledBy _ ![2176, 16] (by sl_kernel_rfl) (ix2 n u))
  · idx_vars x
    unfold Reals.ka
    rw [slots_apply _ _ _ _ _ (cf_real R arg5 harg5 0 _) (cf_real R arg5 harg5 1 _), if_neg (by omega), h0, h1, Nat.add_sub_cancel_left]
  · idx_vars x
    pointwise [k0_pay15]
    rw [trs_apply (R := R)]
    unfold Reals.ka
    rw [if_pos (by omega), h0, h1]
    congr 3
    · exact Fin.ext (by simp; omega)

/-- The augmented values' buffer, filled. -/
theorem va_apply (e : Fin 2) (r : Fin 80) (n : Fin 2176) : View.canon (kernelRun0_A c i arg2 harg2 arg3 harg3 arg4 harg4 arg5 harg5 arg6 harg6 arg7 harg7 arg8 harg8 arg9 harg9 arg10 harg10 x0 x1 x2 x3).2.2.1 (ix3 e r n) = va x2 e r.val n.val := by
  rw [vaL_eq]
  canon_tiles x h using (View.cover_of_tiledBy _ ![2, 16, 16] (by sl_kernel_rfl) (ix3 e r n))
  all_goals unfold va
  all_goals idx_vars x
  · rw [dif_neg (by omega)]
    pointwise [k0_pay21]
    rw [h1]
    fin_vals x1 with hk
    all_goals rw [hk]
    all_goals rfl
  · rw [dif_pos (by omega), ord, dif_neg (by omega), dif_neg (by omega)]
    pointwise [k0_pay20]
  · rw [View.readAt_eq_ld, Memref.IsWhole.read_unread]
    rw [dif_pos (by omega), ord, dif_neg (by omega), dif_pos (by omega)]
    pointwise [k0_pay19]
    obtain rfl : e = x0 := Fin.ext h0
    congr 2
    · exact Fin.ext h1.symm
    · exact Fin.ext (by simp only []; omega)
  · rw [View.readAt_eq_ld, Memref.IsWhole.read_unread]
    rw [dif_pos (by omega), ord, dif_pos (by omega)]
    pointwise [k0_pay18, k0_pay17]
    obtain rfl : e = x0 := Fin.ext h0
    congr 2
    · exact Fin.ext h1.symm
    · exact Fin.ext (by simp only []; omega)

/-- The loads of the augmented keys, of the augmented values, of the queries and of the gate sums. -/
theorem src_k (t : Fin 8) (r : Fin 256) (u : Fin 144) : (src c i arg2 harg2 arg3 harg3 arg4 harg4 arg5 harg5 arg6 harg6 arg7 harg7 arg8 harg8 arg9 harg9 arg10 harg10 x0 x1 x2 x3).k t (ix2 r u) = (R.ka (256 * t.val + r.val) u.val : EReal) :=
  load_k arg7.view (kernelRun0_A c i arg2 harg2 arg3 harg3 arg4 harg4 arg5 harg5 arg6 harg6 arg7 harg7 arg8 harg8 arg9 harg9 arg10 harg10 x0 x1 x2 x3).2.1 (fun n u => (R.ka n u : EReal)) (ka_apply (R := R) c i arg2 harg2 arg3 harg3 arg4 harg4 arg5 harg5 arg6 harg6 arg7 harg7 arg8 harg8 arg9 harg9 arg10 harg10 x0 x1 x2 x3) (256 * t.val) 256 (inb_k t) r u

theorem src_km (r : Fin 16) (u : Fin 144) : (src c i arg2 harg2 arg3 harg3 arg4 harg4 arg5 harg5 arg6 harg6 arg7 harg7 arg8 harg8 arg9 harg9 arg10 harg10 x0 x1 x2 x3).km (ix2 r u) = (R.ka (2048 + r.val) u.val : EReal) :=
  load_k arg7.view (kernelRun0_A c i arg2 harg2 arg3 harg3 arg4 harg4 arg5 harg5 arg6 harg6 arg7 harg7 arg8 harg8 arg9 harg9 arg10 harg10 x0 x1 x2 x3).2.1 (fun n u => (R.ka n u : EReal)) (ka_apply (R := R) c i arg2 harg2 arg3 harg3 arg4 harg4 arg5 harg5 arg6 harg6 arg7 harg7 arg8 harg8 arg9 harg9 arg10 harg10 x0 x1 x2 x3) 2048 16 inb_S2176x144_S16x144_2048_0 r u

theorem src_v (e : Fin 2) (t : Fin 8) (r : Fin 80) (n : Fin 256) : (src c i arg2 harg2 arg3 harg3 arg4 harg4 arg5 harg5 arg6 harg6 arg7 harg7 arg8 harg8 arg9 harg9 arg10 harg10 x0 x1 x2 x3).v e t (ix3 0 r n) = va x2 e r.val (256 * t.val + n.val) :=
  load_v arg8.view (kernelRun0_A c i arg2 harg2 arg3 harg3 arg4 harg4 arg5 harg5 arg6 harg6 arg7 harg7 arg8 harg8 arg9 harg9 arg10 harg10 x0 x1 x2 x3).2.2.1 (va x2) (va_apply c i arg2 harg2 arg3 harg3 arg4 harg4 arg5 harg5 arg6 harg6 arg7 harg7 arg8 harg8 arg9 harg9 arg10 harg10 x0 x1 x2 x3) e (256 * t.val) 256 (inb_v e t) r n

theorem src_vm (e : Fin 2) (r : Fin 80) (n : Fin 16) : (src c i arg2 harg2 arg3 harg3 arg4 harg4 arg5 harg5 arg6 harg6 arg7 harg7 arg8 harg8 arg9 harg9 arg10 harg10 x0 x1 x2 x3).vm e (ix3 0 r n) = va x2 e r.val (2048 + n.val) :=
  load_v arg8.view (kernelRun0_A c i arg2 harg2 arg3 harg3 arg4 harg4 arg5 harg5 arg6 harg6 arg7 harg7 arg8 harg8 arg9 harg9 arg10 harg10 x0 x1 x2 x3).2.2.1 (va x2) (va_apply c i arg2 harg2 arg3 harg3 arg4 harg4 arg5 harg5 arg6 harg6 arg7 harg7 arg8 harg8 arg9 harg9 arg10 harg10 x0 x1 x2 x3) e 2048 16 (inb_vm e) r n

theorem src_q (e : Fin 2) (t : Fin 8) (d : Fin 64) (a : Fin 256) : (src c i arg2 harg2 arg3 harg3 arg4 harg4 arg5 harg5 arg6 harg6 arg7 harg7 arg8 harg8 arg9 harg9 arg10 harg10 x0 x1 x2 x3).q e t (ix4 0 0 d a) = (R.q e d ⟨256 * t.val + a.val, by omega⟩ : EReal) := by
  refine Eq.trans ?_ (R.hq e d _)
  show View.readAt (Elt Ideal) arg2.view _ (harg2.unread x0) _ = _
  rw [View.readAt_eq_ld, Memref.IsWhole.read_unread]
  refine View.ld_unit_apply_of x0 _ _ _ _ _ fun a => ?_
  fin_cases a <;> simp

theorem src_cf (e : Fin 2) (n : Fin 2176) : (src c i arg2 harg2 arg3 harg3 arg4 harg4 arg5 harg5 arg6 harg6 arg7 harg7 arg8 harg8 arg9 harg9 arg10 harg10 x0 x1 x2 x3).cf (ix2 e n) = (R.cf e n.val : EReal) := cf_real R arg5 harg5 e n
end
end Cert.KernelIdeal.Tile
-- ==== Proof.Softmax.lean ====
/- Sums of values against real weights, and the attention's weights with a shift taken out. -/
module

public import Idealize.ShloMosaic.PureOps.Ideal
import Mathlib.Tactic.FieldSimp
import Mathlib.Tactic.Positivity

@[expose] public section

noncomputable section

open Idealize.ShloMosaic
open scoped BigOperators

namespace Cert.Softmax

/-- A finite sum of real numbers, as a sum of extended reals. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A nonnegative real factor goes into a sum, whatever the terms. -/
theorem sum_mul_coe {ι : Type} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The weighted sum over the weights' sum, where every weight is `u j` times one positive factor: the values against the
    weights `u j / ∑ u`. -/
theorem div_weights {ι : Type} (s : Finset ι) (V : ι → EReal) (u : ι → ℝ) (A : ℝ) (hA : 0 < A)
    (hU : 0 < ∑ j ∈ s, u j) :
    Ideal.div (∑ j ∈ s, V j * ((u j * A : ℝ) : EReal)) (∑ j ∈ s, ((u j * A : ℝ) : EReal))
      = ∑ j ∈ s, V j * ((u j / ∑ k ∈ s, u k : ℝ) : EReal) := by
  have hS : 0 < ∑ j ∈ s, u j * A := by rw [← Finset.sum_mul]; exact mul_pos hU hA
  rw [← coe_sum, Ideal.div_coe hS.ne', sum_mul_coe _ _ (by positivity)]
  refine Finset.sum_congr rfl fun j _ => ?_
  rw [mul_assoc, ← EReal.coe_mul]
  congr 2
  rw [← Finset.sum_mul]
  field_simp

end Cert.Softmax
-- ==== Proof.TileVal.lean ====
/- The attention kernel's tile, at an index over the reals. -/
module

public import proofs.«01_k».proof.Proof.TileBuf
public import proofs.«01_k».proof.Proof.Softmax

@[expose] public section

set_option maxRecDepth 16384

noncomputable section

namespace Cert.KernelIdeal.Tile

open Idealize.ShloMosaic Idealize.ShloMosaic.TcCoe Idealize.SL.Sem Cert.KernelIdeal Cert.KernelIdeal.Gen
open scoped BigOperators

/-- What a grid point works on, as real numbers and values. -/
structure Good {x0 : Vec Ideal S1x2x64x2048 .bf16} {x1 : Vec Ideal S1x2x64x2064 .f32} {x3 : Vec Ideal S1x1x2x2176 .f32}
    (E : Src Ideal) (R : Reals x0 x1 x3) (x2 : Vec Ideal S1x2x64x2064 .f32) : Prop where
  k : ∀ (t : Fin 8) (r : Fin 256) (u : Fin 144), E.k t (ix2 r u) = (R.ka (256 * t.val + r.val) u.val : EReal)
  km : ∀ (r : Fin 16) (u : Fin 144), E.km (ix2 r u) = (R.ka (2048 + r.val) u.val : EReal)
  v : ∀ (e : Fin 2) (t : Fin 8) (r : Fin 80) (n : Fin 256), E.v e t (ix3 0 r n) = va x2 e r.val (256 * t.val + n.val)
  vm : ∀ (e : Fin 2) (r : Fin 80) (n : Fin 16), E.vm e (ix3 0 r n) = va x2 e r.val (2048 + n.val)
  q : ∀ (e : Fin 2) (t : Fin 8) (d : Fin 64) (a : Fin 256), E.q e t (ix4 0 0 d a) = (R.q e d ⟨256 * t.val + a.val, by omega⟩ : EReal)
  cf : ∀ (e : Fin 2) (n : Fin 2176), E.cf (ix2 e n) = (R.cf e n.val : EReal)
  s : ∀ (e : Fin 2) (t b : Fin 8), b ≤ t → E.s e t b = shapeCast S1x1x256x256 (sc E e t b) shapeCasts_S256x256_S1x1x256x256
  s16 : ∀ (e : Fin 2) (t : Fin 8), E.s16 e t = shapeCast S1x1x16x256 (sink16 E e t) shapeCasts_S16x256_S1x1x16x256

section
variable {x0 : Vec Ideal S1x2x64x2048 .bf16} {x1 : Vec Ideal S1x2x64x2064 .f32} {x3 : Vec Ideal S1x1x2x2176 .f32}
  {E : Src Ideal} {R : Reals x0 x1 x3} {x2 : Vec Ideal S1x2x64x2064 .f32} (H : Good E R x2)

/-- The gate rows of the augmented queries. -/
def slR (e : ℕ) (x : ℝ) (u : ℕ) : ℝ := if 6 * e ≤ u ∧ u < 6 * e + 3 then 1 else if u = 6 * e + 3 then x else 0

/-- The augmented queries: the head's own rows, zeros in the other head's, the gate rows. -/
def _root_.Cert.KernelIdeal.Tile.Reals.qa (R : Reals x0 x1 x3) (e : Fin 2) (a : Fin 2048) (u : ℕ) : ℝ :=
  if u < 128 then (if u / 64 = e.val then R.q e (Fin.ofNat 64 u) a else 0) else slR e.val (R.cf e a.val) (u - 128)

/-- The score of the key at place `n` in kernel order against query `a`, in powers of two. -/
def _root_.Cert.KernelIdeal.Tile.Reals.S (R : Reals x0 x1 x3) (e : Fin 2) (n : ℕ) (a : Fin 2048) : ℝ :=
  (∑ d : Fin 64, ordR (R.k e d) n * R.q e d a) + (R.cf e a.val - R.cf e n)

theorem zq_apply (j : S64x256.Idx) : zq (F := Ideal) j = (0 : EReal) := by
  unfold zq
  pointwise

theorem slots0 (x : FVec Ideal S1x256 .f32) (a : Fin 256) (y : ℝ) (h : x (ix2 0 a) = (y : EReal)) (u : Fin 16) :
    slots x 0#32 3#32 3#32 4#32 5#32 (ix2 u a) = (slR 0 y u.val : EReal) := by
  pointwise [slots, rq, bc, hi, lo]
  rw [h]
  simp only [coe_sub_self, sub_zero]
  unfold slR
  fin_vals u with hk
  all_goals rw [hk]
  all_goals rfl

theorem slots1 (x : FVec Ideal S1x256 .f32) (a : Fin 256) (y : ℝ) (h : x (ix2 0 a) = (y : EReal)) (u : Fin 16) :
    slots x 6#32 9#32 9#32 10#32 11#32 (ix2 u a) = (slR 1 y u.val : EReal) := by
  pointwise [slots, rq, bc, hi, lo]
  rw [h]
  simp only [coe_sub_self, sub_zero]
  unfold slR
  fin_vals u with hk
  all_goals rw [hk]
  all_goals rfl

/-- The gate rows against the gate columns: the query's gate sum less the key's. -/
theorem slots_sum (e : Fin 2) (a b x : ℝ) : ∑ u : Fin 16, ksR a b u.val * slR e.val x u.val = x - (if e = 0 then a else b) := by
  fin_cases e <;> simp [Fin.sum_univ_succ, ksR, slR] <;> ring

include H

theorem cfq_apply (e : Fin 2) (i : Fin 8) (a : Fin 256) : cfq E e i (ix2 0 a) = (R.cf e (256 * i.val + a.val) : EReal) := by
  unfold cfq
  refine Eq.trans (congrArg E.cf (a₂ := ix2 e ⟨256 * i.val + a.val, by omega⟩) ?_) (H.cf _ _)
  funext b; fin_cases b <;> exact Fin.ext (by simp)

theorem qa_apply (e : Fin 2) (i : Fin 8) (u : Fin 144) (a : Fin 256) :
    qa E e i (ix2 u a) = (R.qa e ⟨256 * i.val + a.val, by omega⟩ u.val : EReal) := by
  unfold qa Reals.qa
  match e with
  | 0 =>
    pointwise
    by_cases h : u.val < 64
    · rw [dif_pos h]
      refine (H.q 0 i ⟨u.val, h⟩ a).trans ?_
      rw [if_pos (by omega), if_pos (by omega)]
      congr 2
      exact Fin.ext (Nat.mod_eq_of_lt h).symm
    · rw [dif_neg h]
      by_cases h' : u.val - 64 < 64
      · rw [dif_pos h']
        refine (zq_apply _).trans ?_
        rw [if_pos (by omega), if_neg (by omega)]; rfl
      · rw [dif_neg h']
        refine (slots0 _ a _ (cfq_apply H 0 i a) ⟨u.val - 64 - 64, by omega⟩).trans ?_
        rw [if_neg (by omega)]
        simp only [show u.val - 64 - 64 = u.val - 128 by omega]
  | 1 =>
    pointwise
    by_cases h : u.val < 64
    · rw [dif_pos h]
      refine (zq_apply _).trans ?_
      rw [if_pos (by omega), if_neg (by omega)]; rfl
    · rw [dif_neg h]
      by_cases h' : u.val - 64 < 64
      · rw [dif_pos h']
        refine (H.q 1 i ⟨u.val - 64, h'⟩ a).trans ?_
        rw [if_pos (by omega), if_pos (by omega)]
        congr 2
        exact Fin.ext (by simp; omega)
      · rw [dif_neg h']
        refine (slots1 _ a _ (cfq_apply H 1 i a) ⟨u.val - 64 - 64, by omega⟩).trans ?_
        rw [if_neg (by omega)]
        simp only [show u.val - 64 - 64 = u.val - 128 by omega]

omit H in
/-- The augmented keys against the augmented queries: the score. -/
theorem dot_aug (e : Fin 2) (n : ℕ) (a : Fin 2048) : ∑ u : Fin 144, R.ka n u.val * R.qa e a u.val = R.S e n a := by
  rw [Fin.sum_univ_add (a := 128) (b := 16), Fin.sum_univ_add (a := 64) (b := 64)]
  unfold Reals.S
  have h3 : ∑ j : Fin 16, R.ka n (Fin.natAdd 128 j).val * R.qa e a (Fin.natAdd 128 j).val = R.cf e a.val - R.cf e n := by
    refine Eq.trans (Finset.sum_congr rfl fun j _ => ?_) ((slots_sum e (R.cf 0 n) (R.cf 1 n) (R.cf e a.val)).trans ?_)
    · unfold Reals.ka Reals.qa
      rw [Fin.val_natAdd, if_neg (by omega), if_neg (by omega), Nat.add_sub_cancel_left]
    · fin_cases e <;> rfl
  rw [h3]
  congr 1
  have h1 : ∀ (e' : Fin 2) (d : Fin 64), R.ka n (64 * e'.val + d.val) * R.qa e a (64 * e'.val + d.val)
      = if e' = e then ordR (R.k e' d) n * R.q e d a else 0 := fun e' d => by
    unfold Reals.ka Reals.qa
    have hd : (64 * e'.val + d.val) / 64 = e'.val := by omega
    rw [if_pos (by omega), if_pos (by omega), hd]
    have h1 : Fin.ofNat 2 e'.val = e' := Fin.ext (Nat.mod_eq_of_lt e'.isLt)
    have h2 : Fin.ofNat 64 (64 * e'.val + d.val) = d := Fin.ext (by simp)
    rw [h1, h2]
    by_cases h : e' = e
    · rw [if_pos h, if_pos (by rw [h])]
    · rw [if_neg h, if_neg (fun hh => h (Fin.ext hh)), mul_zero]
  have e0 : ∀ d : Fin 64, R.ka n (Fin.castAdd 16 (Fin.castAdd 64 d)).val * R.qa e a (Fin.castAdd 16 (Fin.castAdd 64 d)).val
      = if (0 : Fin 2) = e then ordR (R.k 0 d) n * R.q e d a else 0 := fun d => by
    have := h1 0 d
    simpa using this
  have e1 : ∀ d : Fin 64, R.ka n (Fin.castAdd 16 (Fin.natAdd 64 d)).val * R.qa e a (Fin.castAdd 16 (Fin.natAdd 64 d)).val
      = if (1 : Fin 2) = e then ordR (R.k 1 d) n * R.q e d a else 0 := fun d => h1 1 d
  simp only [e0, e1]
  fin_cases e
  · simp
  · simp

theorem raw_apply (e : Fin 2) (i c : Fin 8) (r a : Fin 256) :
    raw E e i c (ix2 r a) = (R.S e (256 * c.val + r.val) ⟨256 * i.val + a.val, by omega⟩ : EReal) := by
  rw [← dot_aug, Cert.Softmax.coe_sum]
  unfold raw
  pointwise
  refine Finset.sum_congr rfl fun u _ => ?_
  rw [H.k, qa_apply H, EReal.coe_mul]

theorem sink16_apply (e : Fin 2) (i : Fin 8) (r : Fin 16) (a : Fin 256) :
    sink16 E e i (ix2 r a) = (R.S e (2048 + r.val) ⟨256 * i.val + a.val, by omega⟩ : EReal) := by
  rw [← dot_aug, Cert.Softmax.coe_sum]
  unfold sink16
  pointwise
  refine Finset.sum_congr rfl fun u _ => ?_
  rw [H.km, qa_apply H, EReal.coe_mul]

theorem diag_apply (e : Fin 2) (i : Fin 8) (r a : Fin 256) :
    diag E e i (ix2 r a) = if r.val ≤ a.val then (R.S e (256 * i.val + r.val) ⟨256 * i.val + a.val, by omega⟩ : EReal) else ⊥ := by
  rw [← raw_apply H]
  unfold diag
  pointwise [mask_eq]
  simp (disch := word_cmp_side) only [hlo_ix]

theorem sc_apply (e : Fin 2) (i b : Fin 8) (hb : b ≤ i) (r a : Fin 256) :
    sc E e i b (ix2 r a) = if 256 * b.val + r.val ≤ 256 * i.val + a.val then (R.S e (256 * b.val + r.val) ⟨256 * i.val + a.val, by omega⟩ : EReal) else ⊥ := by
  unfold sc
  have hb' : b.val ≤ i.val := hb
  split_ifs with h h' h'
  · subst h; rw [diag_apply H, if_pos (by omega)]
  · subst h; rw [diag_apply H, if_neg (by omega)]
  · exact raw_apply H ..
  · have : b.val ≠ i.val := fun h1 => h (Fin.ext h1)
    omega

omit H in
theorem neg_inf : Ideal.ofBits .f32 0xFF800000#32 = (⊥ : EReal) := by
  simp [Ideal.ofBits, Ideal.ieee]

omit H in
theorem top_apply (s : FVec Ideal S256x256 .f32) (a : Fin 256) : top s (ix2 0 a) = Finset.univ.fold max ⊥ fun k : Fin 256 => (show EReal from s (ix2 k a)) := by
  unfold top
  pointwise
  rw [neg_inf]

omit H in
theorem top16_apply (s : FVec Ideal S16x256 .f32) (a : Fin 256) : top16 s (ix2 0 a) = Finset.univ.fold max ⊥ fun k : Fin 16 => (show EReal from s (ix2 k a)) := by
  unfold top16
  pointwise
  rw [neg_inf]

theorem topRun_lt (e : Fin 2) (i : Fin 8) (a : Fin 256) : ∀ (n : ℕ) (s : FVec Ideal S256x256 .f32), (∀ k : Fin 256, (show EReal from s (ix2 k a)) < ⊤) →
    (show EReal from topRun E e i s n (ix2 0 a)) < ⊤
  | 0, s, h => by
    unfold topRun
    rw [top_apply, Finset.fold_max_lt]
    exact ⟨bot_lt_top, fun k _ => h k⟩
  | n + 1, s, h => by
    unfold topRun
    refine max_lt (topRun_lt e i a n _ fun k => ?_) ?_
    · rw [raw_apply H]; exact EReal.coe_lt_top _
    · rw [top_apply, Finset.fold_max_lt]
      exact ⟨bot_lt_top, fun k _ => h k⟩

/-- The largest score is a real number: no score is +∞, and the leading keys' scores are real. -/
theorem top_all_real (e : Fin 2) (i : Fin 8) (a : Fin 256) : ∃ M : ℝ, top_all E e i (ix2 0 a) = (M : EReal) := by
  have h1 : (show EReal from topRun E e i (diag E e i) i.val (ix2 0 a)) < ⊤ := topRun_lt H e i a _ _ fun k => by
    rw [diag_apply H]; split_ifs; exacts [EReal.coe_lt_top _, bot_lt_top]
  have h2 : (show EReal from top16 (sink16 E e i) (ix2 0 a)) < ⊤ := by
    rw [top16_apply, Finset.fold_max_lt]
    exact ⟨bot_lt_top, fun k _ => by rw [sink16_apply H]; exact EReal.coe_lt_top _⟩
  have h3 : ⊥ < (show EReal from top16 (sink16 E e i) (ix2 0 a)) := by
    rw [top16_apply, Finset.lt_fold_max]
    exact .inr ⟨0, Finset.mem_univ _, by rw [sink16_apply H]; exact EReal.bot_lt_coe _⟩
  have h4 : (show EReal from top_all E e i (ix2 0 a)) < ⊤ := max_lt h1 h2
  have h5 : ⊥ < (show EReal from top_all E e i (ix2 0 a)) := lt_max_of_lt_right h3
  exact ⟨_, (EReal.coe_toReal h4.ne h5.ne').symm⟩

/-- Two to the score, for the keys a query may see: in kernel order, the prompt's keys up to its own and the leading ones. -/
def _root_.Cert.KernelIdeal.Tile.Reals.u (R : Reals x0 x1 x3) (e : Fin 2) (a : Fin 2048) (n : ℕ) : ℝ :=
  if n ≤ a.val ∨ 2048 ≤ n then Real.rpow 2 (R.S e n a) else 0

omit H in
theorem exp2_sub (s M : ℝ) : Ideal.exp2 ((s : EReal) - (M : EReal)) = ((Real.rpow 2 s * Real.rpow 2 (-M) : ℝ) : EReal) := by
  rw [← EReal.coe_sub, Ideal.exp2_coe, sub_eq_add_neg]
  exact congrArg _ (Real.rpow_add (by norm_num) _ _)

theorem part_apply (e : Fin 2) (i c : Fin 8) (hc : c ≤ i) (r : Fin 80) (a : Fin 256) (M : ℝ) (hM : top_all E e i (ix2 0 a) = (M : EReal)) :
    part E e i c (ix2 r a) = ∑ n : Fin 256, va x2 e r.val (256 * c.val + n.val)
      * ((R.u e ⟨256 * i.val + a.val, by omega⟩ (256 * c.val + n.val) * Real.rpow 2 (-M) : ℝ) : EReal) := by
  unfold part
  rw [H.s e i c hc]
  pointwise
  refine Finset.sum_congr rfl fun n _ => Ideal.mul_congr (H.v e c r n) ?_
  rw [hM, sc_apply H e i c hc]
  unfold Reals.u
  split_ifs with h h' h'
  · exact exp2_sub ..
  · exact absurd (Or.inl h) h'
  · exact absurd (h'.resolve_right (by omega)) h
  · rw [zero_mul]; rfl

theorem part16_apply (e : Fin 2) (i : Fin 8) (r : Fin 80) (a : Fin 256) (M : ℝ) (hM : top_all E e i (ix2 0 a) = (M : EReal)) :
    part16 E e i (ix2 r a) = ∑ n : Fin 16, va x2 e r.val (2048 + n.val)
      * ((R.u e ⟨256 * i.val + a.val, by omega⟩ (2048 + n.val) * Real.rpow 2 (-M) : ℝ) : EReal) := by
  unfold part16
  rw [H.s16 e i]
  pointwise
  refine Finset.sum_congr rfl fun n _ => Ideal.mul_congr (H.vm e r n) ?_
  rw [hM, sink16_apply H]
  unfold Reals.u
  rw [if_pos (by omega)]
  exact exp2_sub ..

theorem partRun_apply (e : Fin 2) (i : Fin 8) (r : Fin 80) (a : Fin 256) (M : ℝ) (hM : top_all E e i (ix2 0 a) = (M : EReal)) : ∀ m : ℕ, m ≤ i.val →
    partRun E e i m (ix2 r a) = ∑ n ∈ Finset.range (256 * (m + 1)), va x2 e r.val n
      * ((R.u e ⟨256 * i.val + a.val, by omega⟩ n * Real.rpow 2 (-M) : ℝ) : EReal)
  | 0, _ => by
    unfold partRun
    rw [part_apply H e i 0 (Fin.zero_le _) r a M hM, Finset.sum_range]
    refine Finset.sum_congr rfl fun n _ => ?_
    simp
  | m + 1, h => by
    unfold partRun
    refine Eq.trans (Ideal.add_congr (partRun_apply e i r a M hM m (by omega)) (part_apply H e i (Fin.ofNat 8 (m + 1)) ?_ r a M hM)) ?_
    · show (m + 1) % 8 ≤ i.val
      omega
    · rw [show 256 * (m + 1 + 1) = 256 * (m + 1) + 256 by ring, Finset.sum_range_add, Finset.sum_range (n := 256)]
      have : (Fin.ofNat 8 (m + 1)).val = m + 1 := Nat.mod_eq_of_lt (by omega)
      simp only [this]

theorem part_all_apply (e : Fin 2) (i : Fin 8) (r : Fin 80) (a : Fin 256) (M : ℝ) (hM : top_all E e i (ix2 0 a) = (M : EReal)) :
    part_all E e i (ix2 r a) = ∑ n ∈ Finset.range 2064, va x2 e r.val n
      * ((R.u e ⟨256 * i.val + a.val, by omega⟩ n * Real.rpow 2 (-M) : ℝ) : EReal) := by
  unfold part_all
  refine Eq.trans (Ideal.add_congr (partRun_apply H e i r a M hM i.val le_rfl) (part16_apply H e i r a M hM)) ?_
  rw [show 2064 = 2048 + 16 by rfl, Finset.sum_range_add, Finset.sum_range (n := 16)]
  refine congrArg (· + _) (Finset.sum_subset (fun n hn => ?_) fun n hn hn' => ?_)
  · rw [Finset.mem_range] at hn ⊢; omega
  · rw [Finset.mem_range] at hn hn'
    unfold Reals.u
    rw [if_neg (by simp only []; omega), zero_mul]
    exact mul_zero _

/-- A head's output at a feature and a query: the values against the softmax weights. -/
theorem head_apply (e : Fin 2) (i : Fin 8) (d : Fin 64) (a : Fin 256) : head E e i (ix2 d a)
    = ∑ n ∈ Finset.range 2064, ord (fun j => x2 (ix4 0 e d j)) n
      * ((R.u e ⟨256 * i.val + a.val, by omega⟩ n / ∑ k ∈ Finset.range 2064, R.u e ⟨256 * i.val + a.val, by omega⟩ k : ℝ) : EReal) := by
  obtain ⟨M, hM⟩ := top_all_real H e i a
  unfold head
  pointwise
  rw [part_all_apply H e i ⟨d.val, by omega⟩ a M hM, part_all_apply H e i 64 a M hM]
  have hU : 0 < ∑ k ∈ Finset.range 2064, R.u e ⟨256 * i.val + a.val, by omega⟩ k := by
    refine Finset.sum_pos' (fun n _ => ?_) ⟨2048, by simp, ?_⟩
    · unfold Reals.u
      split_ifs
      exacts [(Real.rpow_pos_of_pos (by norm_num) _).le, le_rfl]
    · unfold Reals.u
      rw [if_pos (by omega)]
      exact Real.rpow_pos_of_pos (by norm_num) _
  refine Eq.trans (congrArg₂ Ideal.div (Finset.sum_congr rfl fun n _ => ?_) (Finset.sum_congr rfl fun n _ => ?_))
    (Cert.Softmax.div_weights _ _ _ (Real.rpow 2 (-M)) (Real.rpow_pos_of_pos (by norm_num) _) hU)
  · unfold va
    rw [dif_pos d.isLt]
  · unfold va
    rw [dif_neg (by decide), if_pos (by decide), one_mul]

/-- The tile at a query and a column (head of the pair, feature). -/
theorem tile_apply (i : Fin 8) (a : Fin 256) (l : Fin 128) : tile E i (ix3 0 a l)
    = ∑ n ∈ Finset.range 2064, ord (fun j => x2 (ix4 0 ⟨l.val / 64, by omega⟩ ⟨l.val % 64, by omega⟩ j)) n
      * ((R.u ⟨l.val / 64, by omega⟩ ⟨256 * i.val + a.val, by omega⟩ n / ∑ k ∈ Finset.range 2064, R.u ⟨l.val / 64, by omega⟩ ⟨256 * i.val + a.val, by omega⟩ k : ℝ) : EReal) := by
  unfold tile
  pointwise
  by_cases h : l.val < 64
  · rw [dif_pos h]
    have e1 : (⟨l.val / 64, by omega⟩ : Fin 2) = 0 := Fin.ext (by simp; omega)
    have e2 : (⟨l.val % 64, by omega⟩ : Fin 64) = ⟨l.val, h⟩ := Fin.ext (by simp; omega)
    rw [e1, e2]
    exact head_apply H 0 i ⟨l.val, h⟩ a
  · rw [dif_neg h]
    have e1 : (⟨l.val / 64, by omega⟩ : Fin 2) = 1 := Fin.ext (by simp; omega)
    have e2 : (⟨l.val % 64, by omega⟩ : Fin 64) = ⟨l.val - 64, by omega⟩ := Fin.ext (by simp; omega)
    rw [e1, e2]
    exact head_apply H 1 i ⟨l.val - 64, by omega⟩ a

end
end Cert.KernelIdeal.Tile
-- ==== Proof.AttnRef.lean ====
/- The attention reference's result, at an index over the reals. -/
module

public import proofs.«01_k».proof.Defs
public import proofs.«01_k».proof.Proof.Gen.ReferenceIdeal.Run
public import proofs.«01_k».proof.Proof.Gen.ReferenceIdeal.Read
public import proofs.«01_k».proof.Proof.Softmax
public import Idealize.ShloMosaic.Lib.Pipeline.ValueKit
public import Idealize.ShloMosaic.Lib.Pointwise
import Mathlib.Tactic.FieldSimp
import Mathlib.Tactic.Positivity

@[expose] public section

set_option maxRecDepth 16384

noncomputable section

open Idealize.ShloMosaic Idealize.ShloMosaic.TcCoe Idealize.SL.Sem
open scoped BigOperators

namespace Cert.ReferenceIdeal.Attn

open Cert.ReferenceIdeal Cert.ReferenceIdeal.Gen Cert.ReferenceIdeal.Read

variable (x0 : (⟨S8x16x64x2048, .bf16⟩ : BufTy).Contents (Elt Ideal)) (x1 x2 : (⟨S8x16x64x2064, .f32⟩ : BufTy).Contents (Elt Ideal))
  (x3 : (⟨S8x16x2176, .f32⟩ : BufTy).Contents (Elt Ideal))

/-- The queries, keys and gate sums as real numbers. -/
structure Args where
  q : Fin 8 → Fin 16 → Fin 64 → Fin 2048 → ℝ
  k : Fin 8 → Fin 16 → Fin 64 → Fin 2064 → ℝ
  g : Fin 8 → Fin 16 → Fin 2064 → ℝ
  hq : ∀ b h d a, x0 (ix4 b h d a) = (q b h d a : EReal)
  hk : ∀ b h d j, x1 (ix4 b h d j) = (k b h d j : EReal)
  hg : ∀ b h (j : Fin 2064), x3 (ix3 b h ⟨j.val, by omega⟩) = (g b h j : EReal)

variable {x0 x1 x3} (R : Args x0 x1 x3)

/-- The reference's score. -/
def Args.s (b : Fin 8) (h : Fin 16) (a : Fin 2048) (j : Fin 2064) : ℝ :=
  (∑ d : Fin 64, R.q b h d a * (1 / (1 / 8 * (1 / Real.log 2))) * R.k b h d j) * (1 / 8)
    + (R.g b h ⟨16 + a.val, by omega⟩ - R.g b h j)

/-- One eighth. -/
theorem eighth : Ideal.ofBits .f32 0x3E000000#32 = ((1 / 8 : ℝ) : EReal) := by
  simp [Ideal.ofBits, Ideal.ieee]
  rw [← EReal.coe_mul]
  congr 1
  norm_num

/-- Two. -/
theorem two : Ideal.ofBits .f32 0x40000000#32 = ((2 : ℝ) : EReal) := by
  simp [Ideal.ofBits, Ideal.ieee]
  rw [← EReal.coe_mul]
  congr 1
  norm_num

/-- Minus infinity. -/
theorem bottom : Ideal.ofBits .f32 0xFF800000#32 = (⊥ : EReal) := by
  simp [Ideal.ofBits, Ideal.ieee]

/-- The queries, with the scale taken back out. -/
theorem v6_apply (b : Fin 8) (a : Fin 2048) (h : Fin 16) (d : Fin 64) :
    val_main_v6 (F := Ideal) x0 (ix4 b a h d) = ((R.q b h d a * (1 / (1 / 8 * (1 / Real.log 2))) : ℝ) : EReal) := by
  have hL : (0 : ℝ) < Real.log 2 := Real.log_pos (by norm_num)
  pointwise [val_main_v6, val_main_v5, val_main_v4, val_main_v3, val_main_v2, val_main_v1, val_main_v0, val_main_cst, val_main_cst_0]
  show Ideal.div _ (Ideal.div (Ideal.ofBits .f32 0x3E000000#32) (Ideal.log (Ideal.ofBits .f32 0x40000000#32))) = _
  rw [eighth, two, Ideal.log_coe, if_neg (by norm_num), Ideal.div_coe hL.ne', ← EReal.coe_mul, Ideal.div_coe (by positivity), R.hq,
    ← EReal.coe_mul]

/-- The scaled products of queries and keys. -/
theorem v14_apply (b : Fin 8) (h : Fin 16) (a : Fin 2048) (j : Fin 2064) :
    val_main_v14 (F := Ideal) x0 x1 (ix4 b h a j)
      = (((∑ d : Fin 64, R.q b h d a * (1 / (1 / 8 * (1 / Real.log 2))) * R.k b h d j) * (1 / 8) : ℝ) : EReal) := by
  unfold val_main_v14 val_main_v12
  have h6 := v6_apply R
  generalize val_main_v6 (F := Ideal) x0 = y at *
  pointwise [val_main_v13, val_main_cst_1, val_main_v7]
  simp only [h6, R.hk]
  rw [eighth, EReal.coe_mul, Cert.Softmax.coe_sum]
  simp only [EReal.coe_mul]

/-- The gate sums' differences. -/
theorem v21_apply (b : Fin 8) (h : Fin 16) (a : Fin 2048) (j : Fin 2064) :
    val_main_v21 (F := Ideal) x3 (ix4 b h a j) = ((R.g b h ⟨16 + a.val, by omega⟩ - R.g b h j : ℝ) : EReal) := by
  pointwise [val_main_v21, val_main_v20, val_main_v19, val_main_v18, val_main_v17, val_main_v16, val_main_v15, val_main_v11, val_main_v10, val_main_v9]
  rw [EReal.coe_sub, ← R.hg, ← R.hg]

/-- The reference's score, before the mask. -/
theorem v22_apply (b : Fin 8) (h : Fin 16) (a : Fin 2048) (j : Fin 2064) :
    val_main_v22 (F := Ideal) x0 x1 x3 (ix4 b h a j) = (R.s b h a j : EReal) := by
  unfold val_main_v22
  have h14 := v14_apply R b h a j
  have h21 := v21_apply R b h a j
  generalize val_main_v14 (F := Ideal) x0 x1 = y at *
  generalize val_main_v21 (F := Ideal) x3 = z at *
  show y _ + z _ = _
  rw [h14, h21, ← EReal.coe_add]
  rfl

/-- The mask: the sixteen leading keys, and no key after the query. -/
theorem v31_apply (a : Fin 2048) (j : Fin 2064) :
    val_main_v31 (F := Ideal) (ix2 a j) = BitVec.ofBool (decide (j.val ≤ 16 + a.val)) := by
  pointwise [val_main_v31, val_main_v30, val_main_v29, val_main_v28, val_main_v27, val_main_v26, val_main_v25, val_main_v24, val_main_v23, val_main_c]
  have e : IntOp.addi 16#32 (BitVec.ofNat 32 a.val) = BitVec.ofNat 32 (16 + a.val) := by
    show 16#32 + _ = _
    rw [← BitVec.ofNat_add]
  rw [e]
  show BitVec.ofBool ((BitVec.ofNat 32 j.val).sle (BitVec.ofNat 32 (16 + a.val))) = _
  have hs : ∀ n : ℕ, n < 2080 → (BitVec.ofNat 32 n).toInt = (n : ℤ) := fun n hn => by
    rw [BitVec.toInt_eq_toNat_bmod, BitVec.toNat_ofNat, Nat.mod_eq_of_lt (by omega)]
    exact Int.bmod_eq_of_le (by omega) (by omega)
  congr 1
  rw [BitVec.sle_eq_decide, hs _ (by omega), hs _ (by omega)]
  exact decide_eq_decide.2 (by omega)

/-- The reference's score. -/
theorem v32_apply (b : Fin 8) (h : Fin 16) (a : Fin 2048) (j : Fin 2064) :
    val_main_v32 (F := Ideal) x0 x1 x3 (ix4 b h a j) = if j.val ≤ 16 + a.val then (R.s b h a j : EReal) else ⊥ := by
  unfold val_main_v32
  have h22 := v22_apply R b h a j
  have h31 := v31_apply a j
  generalize val_main_v22 (F := Ideal) x0 x1 x3 = y at *
  unfold val_main_call0_v1
  generalize val_main_v31 (F := Ideal) = z at *
  pointwise [val_main_call0_v2, val_main_call0_v0, val_main_cst_2]
  rw [h31, h22]
  by_cases hj : j.val ≤ 16 + a.val
  · rw [if_pos hj, decide_eq_true hj]; rfl
  · rw [if_neg hj, decide_eq_false hj]; exact bottom

/-- A left fold of maxima is at least its start. -/
theorem start_le_foldl {ι : Type} (f : ι → EReal) (l : List ι) (b : EReal) : b ≤ l.foldl (fun r n => max r (f n)) b := by
  induction l generalizing b with
  | nil => exact le_rfl
  | cons a l ih => exact (le_max_left _ _).trans (ih _)

/-- A left fold of maxima is at least each of its terms. -/
theorem term_le_foldl {ι : Type} (f : ι → EReal) (l : List ι) (b : EReal) (i : ι) (hi : i ∈ l) :
    f i ≤ l.foldl (fun r n => max r (f n)) b := by
  induction l generalizing b with
  | nil => simp at hi
  | cons a l ih =>
    rcases List.mem_cons.1 hi with rfl | h
    · exact (le_max_right _ _).trans (start_le_foldl f l _)
    · exact ih _ h

/-- A left fold of maxima of terms below the top is below the top. -/
theorem foldl_ne_top {ι : Type} (f : ι → EReal) (l : List ι) (b : EReal) (hb : b ≠ ⊤) (hf : ∀ i, f i ≠ ⊤) :
    l.foldl (fun r n => max r (f n)) b ≠ ⊤ := by
  induction l generalizing b with
  | nil => exact hb
  | cons a l ih =>
    refine ih _ ?_
    show max b (f a) ≠ ⊤
    rcases max_choice b (f a) with h | h <;> rw [h]
    · exact hb
    · exact hf a

section
variable {s t u : Shape} {axes : List (Fin s.rank)} (x : FVec Ideal s .f32) (init : FVec Ideal u .f32) (hr : s.ReducesTo axes t)
  (hu : 0 < u.numel)

/-- A reduction by maximum is at least every term that reduces into its place. -/
theorem le_reduce (j : t.Idx) (i : s.Idx) (hi : hr.drop i = j) :
    x i ≤ Host.reduce (FloatOps.maximumf (F := Ideal)) x init hr hu j := by
  rw [Host.reduce_eq_foldl]
  refine term_le_foldl x _ _ i ?_
  rw [List.mem_filter]
  exact ⟨List.mem_map.2 ⟨s.rowMajor i, List.mem_finRange _, Equiv.symm_apply_apply _ _⟩, by simp [hi]⟩

/-- A reduction by maximum of terms below the top is below the top. -/
theorem reduce_ne_top (j : t.Idx) (hb : init (Shape.Idx.first hu) ≠ (⊤ : EReal)) (hf : ∀ i, x i ≠ (⊤ : EReal)) :
    Host.reduce (FloatOps.maximumf (F := Ideal)) x init hr hu j ≠ (⊤ : EReal) := by
  rw [Host.reduce_eq_foldl]
  exact foldl_ne_top x _ _ hb hf

/-- A reduction by maximum of terms below the top, one of them above the bottom, is a real number, from minus infinity. -/
theorem reduce_real (j : t.Idx) (i : s.Idx) (hi : hr.drop i = j) (hb : init (Shape.Idx.first hu) ≠ (⊤ : EReal))
    (hf : ∀ i, x i ≠ (⊤ : EReal)) (hx : x i ≠ (⊥ : EReal)) (z : FVec Ideal t .f32) (hz : z j = (⊥ : EReal)) :
    ∃ M : ℝ, maximumf z (Host.reduce (FloatOps.maximumf (F := Ideal)) x init hr hu) j = (M : EReal) := by
  have ht := reduce_ne_top x init hr hu j hb hf
  have hl := le_reduce x init hr hu j i hi
  show ∃ M : ℝ, max (z j) (Host.reduce (FloatOps.maximumf (F := Ideal)) x init hr hu j) = (M : EReal)
  rw [hz, max_eq_right bot_le]
  exact ⟨EReal.toReal _, (EReal.coe_toReal ht fun e => hx (le_bot_iff.1 (hl.trans_eq e))).symm⟩

end

/-- The last axis dropped. -/
theorem drop_ix4 (h : S8x16x2048x2064.ReducesTo [3] S8x16x2048) (a : Fin 8) (b : Fin 16) (c : Fin 2048) (d : Fin 2064) :
    h.drop (ix4 a b c d) = ix3 a b c := by
  funext e
  fin_cases e <;> rfl

include R in
/-- The reference's row maximum is a real number. -/
theorem v35_apply (b : Fin 8) (h : Fin 16) (a : Fin 2048) :
    ∃ M : ℝ, val_main_v35 (F := Ideal) x0 x1 x3 (ix3 b h a) = (M : EReal) := by
  unfold val_main_v35 val_main_v33
  have h32 := v32_apply R
  generalize val_main_v32 (F := Ideal) x0 x1 x3 = y at *
  have hb : ∀ i, val_main_cst_3 (F := Ideal) i = (⊥ : EReal) := fun i => bottom
  have hc : val_main_v34 (F := Ideal) (ix3 b h a) = (⊥ : EReal) := by
    pointwise [val_main_v34, val_main_cst_4]
    exact bottom
  refine reduce_real y (val_main_cst_3 (F := Ideal)) reducesTo_S8x16x2048x2064_S8x16x2048_d3 h_S_ (ix3 b h a) (ix4 b h a 0)
    (drop_ix4 _ _ _ _ _) (by rw [hb]; exact bot_ne_top) (fun i => ?_) ?_ _ hc
  · idx_vars i
    rw [h32]
    split
    · exact EReal.coe_ne_top _
    · exact bot_ne_top
  · rw [h32, if_pos (by show 0 ≤ _; exact Nat.zero_le _)]
    exact EReal.coe_ne_bot _

/-- The unnormalised weight of a key. -/
def Args.w (b : Fin 8) (h : Fin 16) (a : Fin 2048) (j : Fin 2064) : ℝ :=
  if j.val ≤ 16 + a.val then Real.exp (R.s b h a j) else 0

/-- The reference's attention weights. -/
theorem v43_apply (b : Fin 8) (h : Fin 16) (a : Fin 2048) (j : Fin 2064) :
    val_main_v43 (F := Ideal) x0 x1 x3 (ix4 b h a j) = ((R.w b h a j / ∑ n, R.w b h a n : ℝ) : EReal) := by
  unfold val_main_v43 val_main_v42 val_main_v41 val_main_v40 val_main_v39 val_main_v38 val_main_v37 val_main_v36
  have h32 := v32_apply R
  obtain ⟨M, h35⟩ := v35_apply R b h a
  generalize val_main_v32 (F := Ideal) x0 x1 x3 = y at *
  generalize val_main_v35 (F := Ideal) x0 x1 x3 = z at *
  pointwise [val_main_cst_5]
  have hw : ∀ n, Ideal.exp (y (ix4 b h a n) - z (ix3 b h a)) = ((R.w b h a n * Real.exp (-M) : ℝ) : EReal) := fun n => by
    rw [h32, h35]
    unfold Args.w
    by_cases hn : n.val ≤ 16 + a.val
    · rw [if_pos hn, if_pos hn, ← EReal.coe_sub, Ideal.exp_coe, ← Real.exp_add, sub_eq_add_neg]
    · rw [if_neg hn, if_neg hn, zero_mul, EReal.bot_sub, Ideal.exp_bot]
      rfl
  simp only [hw]
  have hU : 0 < ∑ n, R.w b h a n := by
    refine Finset.sum_pos' (fun n _ => ?_) ⟨0, Finset.mem_univ _, ?_⟩
    · unfold Args.w
      split
      · exact (Real.exp_pos _).le
      · exact le_rfl
    · unfold Args.w
      rw [if_pos (by show 0 ≤ _; exact Nat.zero_le _)]
      exact Real.exp_pos _
  have hA := Real.exp_pos (-M)
  have hS : 0 < ∑ n, R.w b h a n * Real.exp (-M) := by rw [← Finset.sum_mul]; exact mul_pos hU hA
  rw [← Cert.Softmax.coe_sum, Ideal.div_coe hS.ne', ← EReal.coe_mul]
  congr 1
  rw [← Finset.sum_mul]
  field_simp

/-- The reference's result: the values against the attention weights. -/
theorem v47_apply (b : Fin 8) (a : Fin 2048) (w : Fin 1024) :
    val_main_v47 (F := Ideal) x0 x1 x2 x3 (ix3 b a w)
      = ∑ j : Fin 2064, x2 (ix4 b ⟨w.val / 64, by omega⟩ ⟨w.val % 64, by omega⟩ j)
          * ((R.w b ⟨w.val / 64, by omega⟩ a j / ∑ n, R.w b ⟨w.val / 64, by omega⟩ a n : ℝ) : EReal) := by
  unfold val_main_v47 val_main_v46 val_main_v45 val_main_v44
  have h43 := v43_apply R
  generalize val_main_v43 (F := Ideal) x0 x1 x3 = y at *
  pointwise [val_main_v8]
  simp only [h43]

end Cert.ReferenceIdeal.Attn

end
-- ==== Proof.AttnOut.lean ====
/- The attention call: the kernel's weights are the reference's, its result array, and the two programs' results agree. -/
module

public import proofs.«01_k».proof.Proof.TileVal
public import proofs.«01_k».proof.Proof.AttnRef
public import proofs.«01_k».proof.Proof.Gen.KernelIdeal.Value
import Mathlib.Tactic.FieldSimp
import Mathlib.Tactic.Positivity
import Mathlib.Tactic.Ring

@[expose] public section

set_option maxRecDepth 16384

noncomputable section

namespace Cert.KernelIdeal.Tile

open Idealize.ShloMosaic Idealize.ShloMosaic.TcCoe Idealize.SL.Sem Cert.KernelIdeal Cert.KernelIdeal.Gen
open Cert.ReferenceIdeal.Attn (Args)
open scoped BigOperators

/-- A pair's head. -/
def head2 (p : Fin 8) (e : Fin 2) : Fin 16 := ⟨2 * p.val + e.val, by omega⟩

/-- The position a place in kernel order holds. -/
def pos (n : Fin 2064) : Fin 2064 := if h : n.val < 2048 then ⟨16 + n.val, by omega⟩ else ⟨n.val - 2048, by omega⟩

/-- The place in kernel order of a position. -/
def place (j : Fin 2064) : Fin 2064 := if h : j.val < 16 then ⟨2048 + j.val, by omega⟩ else ⟨j.val - 16, by omega⟩

/-- Kernel order runs over every position once. -/
def posE : Fin 2064 ≃ Fin 2064 where
  toFun := pos
  invFun := place
  left_inv n := by
    by_cases h : n.val < 2048
    · rw [show pos n = ⟨16 + n.val, by omega⟩ from dif_pos h]
      exact (dif_neg (by show ¬ 16 + n.val < 16; omega)).trans (Fin.ext (by show 16 + n.val - 16 = n.val; omega))
    · rw [show pos n = ⟨n.val - 2048, by omega⟩ from dif_neg h]
      exact (dif_pos (by show n.val - 2048 < 16; omega)).trans (Fin.ext (by show 2048 + (n.val - 2048) = n.val; omega))
  right_inv j := by
    by_cases h : j.val < 16
    · rw [show place j = ⟨2048 + j.val, by omega⟩ from dif_pos h]
      exact (dif_neg (by show ¬ 2048 + j.val < 2048; omega)).trans (Fin.ext (by show 2048 + j.val - 2048 = j.val; omega))
    · rw [show place j = ⟨j.val - 16, by omega⟩ from dif_neg h]
      exact (dif_pos (by show j.val - 16 < 2048; omega)).trans (Fin.ext (by show 16 + (j.val - 16) = j.val; omega))

/-- A sum over kernel order is the sum over the positions. -/
theorem sum_pos {M : Type} [AddCommMonoid M] (f : ℕ → M) (g : Fin 2064 → M) (h : ∀ n : Fin 2064, f n.val = g (pos n)) :
    ∑ n ∈ Finset.range 2064, f n = ∑ j, g j := by
  rw [Finset.sum_range]
  exact Fintype.sum_equiv posE _ _ h

theorem ord_pos (f : Fin 2064 → EReal) (n : Fin 2064) : ord f n.val = f (pos n) := by
  unfold ord pos
  by_cases h : n.val < 2048
  · rw [dif_pos h, dif_pos h]
  · rw [dif_neg h, dif_neg h, dif_pos n.isLt]

theorem ordR_pos (f : Fin 2064 → ℝ) (n : Fin 2064) : ordR f n.val = f (pos n) := by
  unfold ordR pos
  by_cases h : n.val < 2048
  · rw [dif_pos h, dif_pos h]
  · rw [dif_neg h, dif_neg h, dif_pos n.isLt]

section
variable {A0 : (⟨S8x16x64x2048, .bf16⟩ : BufTy).Contents (Elt Ideal)} {A1 : (⟨S8x16x64x2064, .f32⟩ : BufTy).Contents (Elt Ideal)}
  {A3 : (⟨S8x16x2176, .f32⟩ : BufTy).Contents (Elt Ideal)} (T : Args A0 A1 A3) (b p : Fin 8)
  {x0 : Vec Ideal S1x2x64x2048 .bf16} {x1 : Vec Ideal S1x2x64x2064 .f32} {x3 : Vec Ideal S1x1x2x2176 .f32}
  (h0 : ∀ e d j, x0 (ix4 0 e d j) = A0 (ix4 b (head2 p e) d j))
  (h1 : ∀ e d j, x1 (ix4 0 e d j) = A1 (ix4 b (head2 p e) d j))
  (h3 : ∀ e j, x3 (ix4 0 0 e j) = A3 (ix3 b (head2 p e) j))

/-- The real numbers a grid point works on, out of the arguments'. -/
def reals : Reals x0 x1 x3 where
  q e := T.q b (head2 p e)
  k e := T.k b (head2 p e)
  g e := T.g b (head2 p e)
  hq e d j := (h0 e d j).trans (T.hq _ _ _ _)
  hk e d j := (h1 e d j).trans (T.hk _ _ _ _)
  hg e j := (h3 e _).trans (T.hg _ _ _)

/-- The kernel's score times log 2 is the reference's. -/
theorem S_eq (e : Fin 2) (n : Fin 2064) (a : Fin 2048) :
    Real.log 2 * (reals T b p h0 h1 h3).S e n.val a = T.s b (head2 p e) a (pos n) := by
  have hL : (0 : ℝ) < Real.log 2 := Real.log_pos (by norm_num)
  unfold Reals.S Reals.cf Args.s
  simp only [ordR_pos]
  have ha : ordR (fun j => (reals T b p h0 h1 h3).g e j * (Real.log 2)⁻¹) a.val
      = T.g b (head2 p e) ⟨16 + a.val, by omega⟩ * (Real.log 2)⁻¹ := by
    unfold ordR
    rw [dif_pos a.isLt]
    rfl
  rw [ha]
  show Real.log 2 * ((∑ d, T.k b (head2 p e) d (pos n) * T.q b (head2 p e) d a)
    + (_ - T.g b (head2 p e) (pos n) * (Real.log 2)⁻¹)) = _
  rw [mul_add, Finset.mul_sum, Finset.sum_mul]
  congr 1
  · refine Finset.sum_congr rfl fun d _ => ?_
    field_simp
  · field_simp

/-- The kernel's weight of a key is the reference's. -/
theorem u_eq (e : Fin 2) (n : Fin 2064) (a : Fin 2048) :
    (reals T b p h0 h1 h3).u e a n.val = T.w b (head2 p e) a (pos n) := by
  unfold Reals.u Args.w
  rw [← S_eq T b p h0 h1 h3]
  have hc : (n.val ≤ a.val ∨ 2048 ≤ n.val) ↔ (pos n).val ≤ 16 + a.val := by
    unfold pos
    split <;> simp only [] <;> omega
  by_cases h : n.val ≤ a.val ∨ 2048 ≤ n.val
  · rw [if_pos h, if_pos (hc.1 h)]
    exact Real.rpow_def_of_pos (by norm_num) _
  · rw [if_neg h, if_neg fun g => h (hc.2 g)]

/-- The kernel's weighted sum over its places is the reference's over the positions. -/
theorem attn_eq (e : Fin 2) (a : Fin 2048) (V : Fin 2064 → EReal) :
    ∑ n ∈ Finset.range 2064, ord V n
        * (((reals T b p h0 h1 h3).u e a n / ∑ k ∈ Finset.range 2064, (reals T b p h0 h1 h3).u e a k : ℝ) : EReal)
      = ∑ j, V j * ((T.w b (head2 p e) a j / ∑ k, T.w b (head2 p e) a k : ℝ) : EReal) := by
  rw [sum_pos (fun k => (reals T b p h0 h1 h3).u e a k) (T.w b (head2 p e) a) fun n => u_eq T b p h0 h1 h3 e n a]
  exact sum_pos _ (fun j => V j * ((T.w b (head2 p e) a j / ∑ k, T.w b (head2 p e) a k : ℝ) : EReal))
    fun n => by rw [ord_pos, u_eq]

end

section
variable (c : Dev nD) (i : grid0.Coords)
  (arg2 : Memref sig .tc .vmem S1x2x64x2048 .bf16) (harg2 : arg2.IsWhole)
  (arg3 : Memref sig .tc .vmem S1x2x64x2064 .f32) (harg3 : arg3.IsWhole)
  (arg4 : Memref sig .tc .vmem S1x2x64x2064 .f32) (harg4 : arg4.IsWhole)
  (arg5 : Memref sig .tc .vmem S1x1x2x2176 .f32) (harg5 : arg5.IsWhole)
  (arg6 : Memref sig .tc .vmem S1x2048x128 .bf16) (harg6 : arg6.IsWhole)
  (arg7 : Memref sig .tc .vmem S2176x144 .bf16) (harg7 : arg7.IsWhole)
  (arg8 : Memref sig .tc .vmem S2x80x2176 .bf16) (harg8 : arg8.IsWhole)
  (arg9 : Memref sig .tc .vmem S128x2176 .f32) (harg9 : arg9.IsWhole)
  (arg10 : Memref sig .tc .vmem S2x9x256x256 .f32) (harg10 : arg10.IsWhole)
  (x0 : Vec Ideal S1x2x64x2048 .bf16) (x1 : Vec Ideal S1x2x64x2064 .f32) (x2 : Vec Ideal S1x2x64x2064 .f32) (x3 : Vec Ideal S1x1x2x2176 .f32)

/-- A grid point's loads are what the tile's value asks for. -/
theorem good (R : Reals x0 x1 x3) : Good (src c i arg2 harg2 arg3 harg3 arg4 harg4 arg5 harg5 arg6 harg6 arg7 harg7 arg8 harg8 arg9 harg9 arg10 harg10 x0 x1 x2 x3) R x2 where
  k := src_k c i arg2 harg2 arg3 harg3 arg4 harg4 arg5 harg5 arg6 harg6 arg7 harg7 arg8 harg8 arg9 harg9 arg10 harg10 x0 x1 x2 x3 R
  km := src_km (R := R) c i arg2 harg2 arg3 harg3 arg4 harg4 arg5 harg5 arg6 harg6 arg7 harg7 arg8 harg8 arg9 harg9 arg10 harg10 x0 x1 x2 x3
  v := src_v c i arg2 harg2 arg3 harg3 arg4 harg4 arg5 harg5 arg6 harg6 arg7 harg7 arg8 harg8 arg9 harg9 arg10 harg10 x0 x1 x2 x3
  vm := src_vm c i arg2 harg2 arg3 harg3 arg4 harg4 arg5 harg5 arg6 harg6 arg7 harg7 arg8 harg8 arg9 harg9 arg10 harg10 x0 x1 x2 x3
  q := src_q c i arg2 harg2 arg3 harg3 arg4 harg4 arg5 harg5 arg6 harg6 arg7 harg7 arg8 harg8 arg9 harg9 arg10 harg10 x0 x1 x2 x3 R
  cf := src_cf c i arg2 harg2 arg3 harg3 arg4 harg4 arg5 harg5 arg6 harg6 arg7 harg7 arg8 harg8 arg9 harg9 arg10 harg10 x0 x1 x2 x3 R
  s := s_eq c i arg2 harg2 arg3 harg3 arg4 harg4 arg5 harg5 arg6 harg6 arg7 harg7 arg8 harg8 arg9 harg9 arg10 harg10 x0 x1 x2 x3
  s16 := s16_eq c i arg2 harg2 arg3 harg3 arg4 harg4 arg5 harg5 arg6 harg6 arg7 harg7 arg8 harg8 arg9 harg9 arg10 harg10 x0 x1 x2 x3

/-- What a grid point leaves in the output's block, at an index. -/
theorem out_apply (R : Reals x0 x1 x3) (r : Fin 2048) (l : Fin 128) : out0_A_4 c i arg2 harg2 arg3 harg3 arg4 harg4 arg5 harg5 arg6 harg6 arg7 harg7 arg8 harg8 arg9 harg9 arg10 harg10 x0 x1 x2 x3 (ix3 0 r l)
    = ∑ n ∈ Finset.range 2064, ord (fun j => x2 (ix4 0 ⟨l.val / 64, by omega⟩ ⟨l.val % 64, by omega⟩ j)) n
      * ((R.u ⟨l.val / 64, by omega⟩ r n / ∑ k ∈ Finset.range 2064, R.u ⟨l.val / 64, by omega⟩ r k : ℝ) : EReal) := by
  unfold out0_A_4
  rw [View.read_writes_junk_eq_canon]
  refine View.canon_eq_of_allAt _ _ _ (cover0_A_4 c i arg2 harg2 arg3 harg3 arg4 harg4 arg5 harg5 arg6 harg6 arg7 harg7 arg8 harg8 arg9 harg9 arg10 harg10 x0 x1 x2 x3 _) ?_
  rw [pieces c i arg2 harg2 arg3 harg3 arg4 harg4 arg5 harg5 arg6 harg6 arg7 harg7 arg8 harg8 arg9 harg9 arg10 harg10 x0 x1 x2 x3]
  intro pc hp z hz
  obtain ⟨t, _, rfl⟩ := List.mem_map.1 hp
  have hz' : ∀ a : Fin 3, (![0, 256 * t.val, 0] : Fin 3 → ℕ) a + (z a).val = ((ix3 (0 : Fin 1) r l : S1x2048x128.Idx) a).val := fun a => by
    rw [← hz, Rect.emb_apply]
    show _ = _ + 1 * _
    rw [one_mul]
    rfl
  have hr : 256 * t.val + (z 1).val = r.val := hz' 1
  have hl : 0 + (z 2).val = l.val := hz' 2
  show tile _ t z = _
  idx_vars z
  replace hr : 256 * t.val + z1.val = r.val := hr
  replace hl : 0 + z2.val = l.val := hl
  obtain rfl : z2 = l := Fin.ext (by omega)
  obtain rfl : z0 = 0 := Subsingleton.elim _ _
  refine (tile_apply (good c i arg2 harg2 arg3 harg3 arg4 harg4 arg5 harg5 arg6 harg6 arg7 harg7 arg8 harg8 arg9 harg9 arg10 harg10 x0 x1 x2 x3 R) t z1 z2).trans ?_
  simp only [show (⟨256 * t.val + z1.val, by omega⟩ : Fin 2048) = r from Fin.ext hr]

end

end Cert.KernelIdeal.Tile

end
-- ==== Proof.Attn.lean ====
/- The attention call: its result array, and the agreement of the two programs' results. -/
module

public import proofs.«01_k».proof.Proof.AttnOut
public import proofs.«01_k».proof.Proof.Gen.Pre_finite

@[expose] public section

set_option maxRecDepth 16384

noncomputable section

open Idealize.ShloMosaic Idealize.ShloMosaic.TcCoe Idealize.SL.Sem
open scoped BigOperators

namespace Cert.KernelIdeal.Tile

open Cert.KernelIdeal Cert.KernelIdeal.Gen
open Cert.ReferenceIdeal.Attn (Args)

variable (m : (ℓ : Loc nD τ sig) → Buf (Elt Ideal) ℓ) (ρ : Dev nD → PrngReg)

/-- The arguments of a device, as real numbers. -/
abbrev Real' (c : Dev nD) : Type :=
  Args (m ((c : Thread nD τ).loc main_arg0)) (m ((c : Thread nD τ).loc main_arg1)) (m ((c : Thread nD τ).loc main_arg3))

/-- The result array: at a batch, a query and a column, the column's head's values against its attention weights. -/
def res (c : Dev nD) (T : Real' m c) (i : S8x2048x1024.Idx) : EReal :=
  ∑ j : Fin 2064, (show EReal from m ((c : Thread nD τ).loc main_arg2) (ix4 (i 0) ⟨(i 2).val / 64, by have := (i 2).isLt; simp at this; omega⟩ ⟨(i 2).val % 64, by omega⟩ j))
    * ((T.w (i 0) ⟨(i 2).val / 64, by have := (i 2).isLt; simp at this; omega⟩ (i 1) j / ∑ n, T.w (i 0) ⟨(i 2).val / 64, by have := (i 2).isLt; simp at this; omega⟩ (i 1) n : ℝ) : EReal)

/-- Which block each window stages at a grid point. -/
theorem idx : ∀ t : Fin cfg0.N, win0_0.index t = ![t.val / 8, t.val % 8, 0, 0] ∧ win0_1.index t = ![t.val / 8, t.val % 8, 0, 0]
    ∧ win0_2.index t = ![t.val / 8, t.val % 8, 0, 0] ∧ win0_3.index t = ![t.val / 8, t.val % 8, 0, 0]
    ∧ win0_4.index t = ![t.val / 8, 0, t.val % 8] :=
  (by decide +kernel : ∀ t : Fin grid0.N, win0_0.index t = ![t.val / 8, t.val % 8, 0, 0] ∧ win0_1.index t = ![t.val / 8, t.val % 8, 0, 0]
    ∧ win0_2.index t = ![t.val / 8, t.val % 8, 0, 0] ∧ win0_3.index t = ![t.val / 8, t.val % 8, 0, 0]
    ∧ win0_4.index t = ![t.val / 8, 0, t.val % 8])

theorem blk0 (c : Dev nD) (t : Fin cfg0.N) (e : Fin 2) (d : Fin 64) (j : Fin 2048) :
    (iblk m c 0 t : Vec Ideal S1x2x64x2048 .bf16) (ix4 0 e d j)
      = m ((c : Thread nD τ).loc main_arg0) (ix4 ⟨t.val / 8, by have : t.val < 64 := t.isLt; omega⟩ (head2 ⟨t.val % 8, by omega⟩ e) d j) := by
  blk_point [iblk, V, idx t]
  show _ = 2 * (t.val % 8) + e.val
  omega

theorem blk1 (c : Dev nD) (t : Fin cfg0.N) (e : Fin 2) (d : Fin 64) (j : Fin 2064) :
    (iblk m c 1 t : Vec Ideal S1x2x64x2064 .f32) (ix4 0 e d j)
      = m ((c : Thread nD τ).loc main_arg1) (ix4 ⟨t.val / 8, by have : t.val < 64 := t.isLt; omega⟩ (head2 ⟨t.val % 8, by omega⟩ e) d j) := by
  blk_point [iblk, V, idx t]
  show _ = 2 * (t.val % 8) + e.val
  omega

theorem blk2 (c : Dev nD) (t : Fin cfg0.N) (e : Fin 2) (d : Fin 64) (j : Fin 2064) :
    (iblk m c 2 t : Vec Ideal S1x2x64x2064 .f32) (ix4 0 e d j)
      = m ((c : Thread nD τ).loc main_arg2) (ix4 ⟨t.val / 8, by have : t.val < 64 := t.isLt; omega⟩ (head2 ⟨t.val % 8, by omega⟩ e) d j) := by
  blk_point [iblk, V, idx t]
  show _ = 2 * (t.val % 8) + e.val
  omega

theorem blk3 (c : Dev nD) (t : Fin cfg0.N) (e : Fin 2) (j : Fin 2176) :
    (iblk m c 3 t : Vec Ideal S1x1x2x2176 .f32) (ix4 0 0 e j)
      = m ((c : Thread nD τ).loc main_arg3) (ix3 ⟨t.val / 8, by have : t.val < 64 := t.isLt; omega⟩ (head2 ⟨t.val % 8, by omega⟩ e) j) := by
  blk_point [iblk, V, idx t]
  show _ = 2 * (t.val % 8) + e.val
  omega

/-- After the run the result array holds the attention of the arguments. -/
theorem final (c : Dev nD) (T : Real' m c) : (dats m 0 c).arrAt 4 cfg0.N = res m c T := by
  refine (dats m 0 c).arrAt_eq_of_covers 4 _ (by decide +kernel) fun t hf y => ?_
  blk_simp
  rw [after0_4]
  unfold outsAt0
  idx_vars y
  have ht : t.val < 64 := t.isLt
  obtain rfl : y0 = 0 := Subsingleton.elim _ _
  have he : ((View.whole main_v1).slice (win0_4.rect t)).emb (ix3 0 y1 y2)
      = ix3 ⟨t.val / 8, by omega⟩ y1 ⟨128 * (t.val % 8) + y2.val, by omega⟩ := by
    funext a
    fin_cases a <;> refine Fin.ext ?_ <;> simp [View.emb_slice, idx t]
    show t.val % 8 * 128 = 128 * (t.val % 8)
    exact Nat.mul_comm _ _
  rw [he, out_apply _ _ _ _ _ _ _ _ _ _ _ _ _ _ _ _ _ _ _ _ _ _ _ _
    (reals T ⟨t.val / 8, by omega⟩ ⟨t.val % 8, by omega⟩ (blk0 m c t) (blk1 m c t) (blk3 m c t)), attn_eq]
  unfold res
  have e1 : (⟨(128 * (t.val % 8) + y2.val) / 64, by omega⟩ : Fin 16) = head2 ⟨t.val % 8, by omega⟩ ⟨y2.val / 64, by omega⟩ :=
    Fin.ext (by show (128 * (t.val % 8) + y2.val) / 64 = 2 * (t.val % 8) + y2.val / 64; omega)
  have e2 : (⟨(128 * (t.val % 8) + y2.val) % 64, by omega⟩ : Fin 64) = ⟨y2.val % 64, by omega⟩ := Fin.ext (by simp only []; omega)
  refine Finset.sum_congr (M := EReal) rfl fun j _ => ?_
  rw [blk2]
  show _ = (show EReal from m ((c : Thread nD τ).loc main_arg2) (ix4 ⟨t.val / 8, by omega⟩ ⟨(128 * (t.val % 8) + y2.val) / 64, by omega⟩ ⟨(128 * (t.val % 8) + y2.val) % 64, by omega⟩ j))
    * ((T.w ⟨t.val / 8, by omega⟩ ⟨(128 * (t.val % 8) + y2.val) / 64, by omega⟩ y1 j
      / ∑ n, T.w ⟨t.val / 8, by omega⟩ ⟨(128 * (t.val % 8) + y2.val) / 64, by omega⟩ y1 n : ℝ) : EReal)
  rw [e1, e2]

/-- The comparison with plus infinity that comes out true: a real number. -/
theorem real_of_lt (x : EReal) (h : Ideal.cmp .olt (max x (-x)) (Ideal.ofBits .f32 0x7F800000#32) = 1#1) : ((x.toReal : ℝ) : EReal) = x := by
  have hi : Ideal.ofBits .f32 0x7F800000#32 = (⊤ : EReal) := by simp [Ideal.ofBits, Ideal.ieee]
  rw [hi] at h
  have hlt : max x (-x) < ⊤ := by
    by_contra hn
    simp [Ideal.cmp, hn] at h
  refine EReal.coe_toReal (fun e => ?_) (fun e => ?_)
  · rw [e] at hlt
    simp at hlt
  · rw [e] at hlt
    simp at hlt

section
variable {x0 : FVec Ideal S8x16x64x2048 .bf16} {x1 x2 : FVec Ideal S8x16x64x2064 .f32} {x3 : FVec Ideal S8x16x2176 .f32}

/-- The precondition: the queries, keys and gate sums are real numbers. -/
def args [Cert.Pre_finite.Facts] (h : (Cert.Pre_finite.fn (F := Ideal) x0 x1 x2 x3).1 = (fun _ => 1#1)
    ∧ (Cert.Pre_finite.fn (F := Ideal) x0 x1 x2 x3).2.1 = (fun _ => 1#1) ∧ (Cert.Pre_finite.fn (F := Ideal) x0 x1 x2 x3).2.2 = (fun _ => 1#1)) :
    Args x0 x1 x3 where
  q b h d a := EReal.toReal (x0 (ix4 b h d a))
  k b h d j := EReal.toReal (x1 (ix4 b h d j))
  g b h j := EReal.toReal (x3 (ix3 b h ⟨j.val, by omega⟩))
  hq b k d a := by
    have e := congrFun h.1 (ix4 b k d a)
    unfold Cert.Pre_finite.fn at e
    refine (real_of_lt _ ?_).symm
    exact e
  hk b k d a := by
    have e := congrFun h.2.1 (ix4 b k d a)
    unfold Cert.Pre_finite.fn at e
    refine (real_of_lt _ ?_).symm
    exact e
  hg b k j := by
    have e := congrFun h.2.2 (ix3 b k j)
    unfold Cert.Pre_finite.fn at e
    refine (real_of_lt _ ?_).symm
    pointwise at e
    exact e
end

end Cert.KernelIdeal.Tile

namespace Cert.Attn

open Cert.KernelIdeal.Tile (res args final)

/-- The reference's result is the attention of its arguments. -/
theorem ref_eq (m : (ℓ : Loc Cert.KernelIdeal.nD Cert.KernelIdeal.τ Cert.KernelIdeal.sig) → Buf (Elt Ideal) ℓ) (c : Dev Cert.KernelIdeal.nD)
    (T : Cert.KernelIdeal.Tile.Real' m c) :
    Cert.ReferenceIdeal.Read.val_main_v47 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = res m c T := by
  funext i
  idx_vars i
  exact Cert.ReferenceIdeal.Attn.v47_apply _ T i0 i1 i2

/-- The two programs' results are one function of the arguments they share, of real queries, keys and gate sums. -/
theorem agree : Cert.algebraic_KernelIdeal_ReferenceIdeal_pre_finite := by
  intro m ρ m' ρ' hp hag
  refine ⟨fun c => res m c (args (hp c)), ?_, ?_⟩
  · exact (θ_run _ _ _).mono (fun r h c => ⟨(h c).1.trans (final m c (args (hp c))), (h c).2⟩)
      (Cert.KernelIdeal.Value.run_blocks m ρ)
  · refine (θ_run _ _ _).mono (fun r h c => ⟨(h c).1.trans ?_, (h c).2⟩) (Cert.ReferenceIdeal.Value.run m' ρ')
    rw [Cert.ReferenceIdeal.Read.val_main_v47_eq]
    obtain ⟨h0, h1, h2, h3⟩ := hag c
    rw [h0, h1, h2, h3]
    exact ref_eq m c (args (hp c))

end Cert.Attn

end
-- ==== Proof.MlpRow.lean ====
/-
  The projection and MLP call, row by row: the formulas that both programs compute for one token, over the extended
  reals, and the kernel body's stored block read as those formulas of the blocks it loads.
-/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

open Idealize.ShloMosaic Idealize.SL.Sem
open scoped BigOperators

namespace Cert.Mlp

/-- The residual stream after the attention output is projected into it: `h + (o · W + b)`. -/
def lin (h o : Fin 1024 → EReal) (w : Fin 1024 → Fin 1024 → EReal) (b : Fin 1024 → EReal) (l : Fin 1024) : EReal :=
  h l + ((∑ k, o k * w k l) + b l)

/-- One row scaled to unit mean square (with the small constant added) and multiplied by the gain. -/
def nrm (x g : Fin 1024 → EReal) (l : Fin 1024) : EReal :=
  x l * Ideal.rsqrt (Ideal.div (∑ k, x k * x k) (Ideal.ofBits .f32 0x44800000#32) + Ideal.ofBits .f32 0x358637BD#32) * g l

/-- A hidden unit: the square of the positive part of the row's product with a column of the first matrix. -/
def act (n : Fin 1024 → EReal) (w : Fin 1024 → Fin 4096 → EReal) (k : Fin 4096) : EReal :=
  max (∑ i, n i * w i k) 0 * max (∑ i, n i * w i k) 0

/-- The whole row: the residual plus the hidden units' product with the second matrix. -/
def row (x g : Fin 1024 → EReal) (u : Fin 1024 → Fin 4096 → EReal) (d : Fin 4096 → Fin 1024 → EReal) (l : Fin 1024) : EReal :=
  x l + ∑ k, act (nrm x g) u k * d k l

/-- A sum over the 4096 hidden units is the sum of its four quarters. -/
theorem sum_quarters (f : Fin 4096 → EReal) :
    ∑ k, f k = ∑ k : Fin 1024, f ⟨k, by omega⟩ + ∑ k : Fin 1024, f ⟨1024 + k, by omega⟩
      + ∑ k : Fin 1024, f ⟨2048 + k, by omega⟩ + ∑ k : Fin 1024, f ⟨3072 + k, by omega⟩ := by
  rw [show ∑ k, f k = ∑ k : Fin (1024 + 1024 + 1024 + 1024), f k from rfl, Fin.sum_univ_add, Fin.sum_univ_add, Fin.sum_univ_add]
  rfl

end Cert.Mlp

namespace Cert.Kernel2Ideal.Row

open Cert.Kernel2Ideal Cert.Kernel2Ideal.Gen Cert.Mlp

/-- The body's residual row is `lin` of its loads. -/
theorem pay2_apply (v0 : Vec Ideal S512x1024 .f32) (v1 : Vec Ideal S512x1024 .bf16) (v2 : Vec Ideal S1024x1024 .bf16)
    (v6 : Vec Ideal S1x1024 .f32) (r : Fin 512) (l : Fin 1024) :
    k0_pay2 v0 v1 v2 v6 (ix2 r l)
      = lin (fun k => v0 (ix2 r k)) (fun k => v1 (ix2 r k)) (fun k l => v2 (ix2 k l)) (fun l => v6 (ix2 0 l)) l := by
  pointwise [k0_pay2, lin]
  exact add_assoc _ _ _

/-- The body's normalised row is `nrm` of its residual row. -/
theorem pay3_apply (v0 : Vec Ideal S512x1024 .f32) (v1 : Vec Ideal S512x1024 .bf16) (v2 : Vec Ideal S1024x1024 .bf16)
    (v6 v20 : Vec Ideal S1x1024 .f32) (r : Fin 512) (l : Fin 1024) :
    k0_pay3 v0 v1 v2 v6 v20 (ix2 r l)
      = nrm (fun k => k0_pay2 v0 v1 v2 v6 (ix2 r k)) (fun l => v20 (ix2 0 l)) l := by
  unfold k0_pay3
  generalize k0_pay2 v0 v1 v2 v6 = x
  pointwise [nrm]

/-- The first quarter of the hidden units, added to the residual row. -/
theorem pay4_apply (v0 : Vec Ideal S512x1024 .f32) (v1 : Vec Ideal S512x1024 .bf16) (v2 : Vec Ideal S1024x1024 .bf16)
    (v6 v20 : Vec Ideal S1x1024 .f32) (v25 v32 : Vec Ideal S1024x1024 .bf16) (r : Fin 512) (l : Fin 1024) :
    k0_pay4 v0 v1 v2 v6 v20 v25 v32 (ix2 r l)
      = k0_pay2 v0 v1 v2 v6 (ix2 r l)
        + ∑ k : Fin 1024, (max (∑ i : Fin 1024, k0_pay3 v0 v1 v2 v6 v20 (ix2 r i) * v25 (ix2 i k)) 0
            * max (∑ i : Fin 1024, k0_pay3 v0 v1 v2 v6 v20 (ix2 r i) * v25 (ix2 i k)) 0) * v32 (ix2 k l) := by
  unfold k0_pay4
  generalize k0_pay2 v0 v1 v2 v6 = x
  generalize k0_pay3 v0 v1 v2 v6 v20 = n
  pointwise

/-- The other three quarters, added in turn. -/
theorem pay1_apply (n : FVec Ideal S512x1024 .bf16) (x : FVec Ideal S512x1024 .f32)
    (u1 d1 u2 d2 u3 d3 : Vec Ideal S1024x1024 .bf16) (r : Fin 512) (l : Fin 1024) :
    k0_pay1 n x u1 d1 u2 d2 u3 d3 (ix2 r l)
      = x (ix2 r l)
        + (∑ k : Fin 1024, (max (∑ i : Fin 1024, n (ix2 r i) * u1 (ix2 i k)) 0 * max (∑ i : Fin 1024, n (ix2 r i) * u1 (ix2 i k)) 0) * d1 (ix2 k l))
        + (∑ k : Fin 1024, (max (∑ i : Fin 1024, n (ix2 r i) * u2 (ix2 i k)) 0 * max (∑ i : Fin 1024, n (ix2 r i) * u2 (ix2 i k)) 0) * d2 (ix2 k l))
        + (∑ k : Fin 1024, (max (∑ i : Fin 1024, n (ix2 r i) * u3 (ix2 i k)) 0 * max (∑ i : Fin 1024, n (ix2 r i) * u3 (ix2 i k)) 0) * d3 (ix2 k l)) := by
  unfold k0_pay1
  pointwise

/-- What the body stores, at a row and a column: the row formula of the blocks it loads. -/
theorem out_apply (x0 : Vec Ideal S512x1024 .f32) (x1 : Vec Ideal S512x1024 .bf16) (x2 : Vec Ideal S1024x1024 .bf16)
    (x3 x4 : Vec Ideal S1x1024 .f32) (x5 : Vec Ideal S1024x4096 .bf16) (x6 : Vec Ideal S4096x1024 .bf16) (r : Fin 512) (l : Fin 1024) :
    out0_7 x0 x1 x2 x3 x4 x5 x6 (ix2 r l)
      = row (lin (fun k => x0 (ix2 r k)) (fun k => x1 (ix2 r k)) (fun k l => x2 (ix2 k l)) (fun l => x3 (ix2 0 l)))
          (fun l => x4 (ix2 0 l)) (fun i k => x5 (ix2 i k)) (fun k l => x6 (ix2 k l)) l := by
  frame_out
  rw [pay1_apply, pay4_apply, row, sum_quarters]
  simp only [pay3_apply, pay2_apply]
  pointwise [act]
  simp only [add_assoc]

end Cert.Kernel2Ideal.Row

end
-- ==== Proof.MlpValue.lean ====
/-
  The projection and MLP call: the result array after the run, and the reference's result, both as the row formula of
  the argument arrays.
-/
module

public import proofs.«01_k».proof.Proof.MlpRow
public import proofs.«01_k».proof.Proof.Gen.Kernel2Ideal.Value
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Mlp

/-- The result array: every token's row by the row formula. -/
def G (h : (⟨2, ![16384, 1024]⟩ : Shape).Idx → EReal) (o : (⟨2, ![16384, 1024]⟩ : Shape).Idx → EReal)
    (w : (⟨2, ![1024, 1024]⟩ : Shape).Idx → EReal) (b g : (⟨1, ![1024]⟩ : Shape).Idx → EReal)
    (u : (⟨2, ![1024, 4096]⟩ : Shape).Idx → EReal) (d : (⟨2, ![4096, 1024]⟩ : Shape).Idx → EReal)
    (i : (⟨2, ![16384, 1024]⟩ : Shape).Idx) : EReal :=
  row (lin (fun k => h (ix2 (i 0) k)) (fun k => o (ix2 (i 0) k)) (fun k l => w (ix2 k l)) (fun l => b (ix1 l)))
    (fun l => g (ix1 l)) (fun i k => u (ix2 i k)) (fun k l => d (ix2 k l)) (i 1)

end Cert.Mlp

namespace Cert.Kernel2Ideal.Row

open Cert.Kernel2Ideal Cert.Kernel2Ideal.Gen Cert.Mlp

variable (m : (ℓ : Loc nD τ sig) → Buf (Elt Ideal) ℓ) (ρ : Dev nD → PrngReg)

/-- The result array of the argument arrays. -/
abbrev res (c : Dev nD) : S16384x1024.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- Which block each window stages at a grid point: the token windows the point's own rows, the others the whole array. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![t.val, 0])

/-- After the run the result array holds the row formula of the arguments, at every token. -/
theorem final (c : Dev nD) : (dats m 0 c).arrAt 7 cfg0.N = res m c := by
  refine (dats m 0 c).arrAt_eq_of_covers 7 _ (by decide +kernel) fun t hf y => ?_
  blk_simp
  rw [after0_7]
  idx_vars y
  rw [out_apply]
  unfold res G
  blk_point [iblk, V, idx t]

end Cert.Kernel2Ideal.Row

end
-- ==== Proof.MlpRef.lean ====
/-
  The projection and MLP call: the reference's result is the row formula of its arguments, and the two programs'
  results agree.
-/
module

public import proofs.«01_k».proof.Defs
public import proofs.«01_k».proof.Proof.MlpValue

@[expose] public section

set_option maxRecDepth 16384

noncomputable section

open Idealize.ShloMosaic Idealize.ShloMosaic.TcCoe Idealize.SL.Sem
open scoped BigOperators

namespace Cert.Reference2Ideal.Row

open Cert.Reference2Ideal Cert.Reference2Ideal.Gen Cert.Reference2Ideal.Read Cert.Mlp

variable (x0 : (⟨S16384x1024, .f32⟩ : BufTy).Contents (Elt Ideal)) (x1 : (⟨S16384x1024, .bf16⟩ : BufTy).Contents (Elt Ideal))
  (x2 : (⟨S1024x1024, .f32⟩ : BufTy).Contents (Elt Ideal)) (x3 x4 : (⟨S1024, .f32⟩ : BufTy).Contents (Elt Ideal))
  (x5 : (⟨S1024x4096, .f32⟩ : BufTy).Contents (Elt Ideal)) (x6 : (⟨S4096x1024, .f32⟩ : BufTy).Contents (Elt Ideal))

/-- The reference's residual row is `lin` of its arguments. -/
theorem v5_apply (r : Fin 16384) (l : Fin 1024) :
    val_main_v5 (F := Ideal) x0 x1 x2 x3 (ix2 r l)
      = lin (fun k => x0 (ix2 r k)) (fun k => x1 (ix2 r k)) (fun k l => x2 (ix2 k l)) (fun l => x3 (ix1 l)) l := by
  pointwise [val_main_v5, val_main_v4, val_main_v3, val_main_v2, val_main_v1, val_main_v0, lin]

/-- The reference's normalised row is `nrm` of its residual row. -/
theorem v18_apply (r : Fin 16384) (l : Fin 1024) :
    val_main_v18 (F := Ideal) x0 x1 x2 x3 x4 (ix2 r l)
      = nrm (fun k => val_main_v5 (F := Ideal) x0 x1 x2 x3 (ix2 r k)) (fun l => x4 (ix1 l)) l := by
  unfold val_main_v18 val_main_v15 val_main_v14 val_main_v13 val_main_v12 val_main_v10 val_main_v8 val_main_v7 val_main_v6
  generalize val_main_v5 (F := Ideal) x0 x1 x2 x3 = x
  pointwise [nrm, val_main_v17, val_main_v16, val_main_v11, val_main_v9, val_main_cst, val_main_cst_0, val_main_cst_1]

/-- The reference's hidden units. -/
theorem v21_apply (r : Fin 16384) (k : Fin 4096) :
    val_main_v21 (F := Ideal) x0 x1 x2 x3 x4 x5 (ix2 r k)
      = act (fun i => val_main_v18 (F := Ideal) x0 x1 x2 x3 x4 (ix2 r i)) (fun i k => x5 (ix2 i k)) k := by
  unfold val_main_v21 val_main_v20 val_main_v19
  generalize val_main_v18 (F := Ideal) x0 x1 x2 x3 x4 = n
  pointwise [act, val_main_call0_v0, val_main_call0_cst]

/-- The reference's result is the row formula of its arguments, at every token. -/
theorem v23_eq : val_main_v23 (F := Ideal) x0 x1 x2 x3 x4 x5 x6 = G x0 x1 x2 x3 x4 x5 x6 := by
  funext i
  idx_vars i
  unfold val_main_v23 val_main_v22 G row
  have h5 := v5_apply x0 x1 x2 x3
  have h18 := v18_apply x0 x1 x2 x3 x4
  have h21 := v21_apply x0 x1 x2 x3 x4 x5
  generalize val_main_v5 (F := Ideal) x0 x1 x2 x3 = x at *
  generalize val_main_v18 (F := Ideal) x0 x1 x2 x3 x4 = n at *
  generalize val_main_v21 (F := Ideal) x0 x1 x2 x3 x4 x5 = y at *
  pointwise
  simp only [h21, h18, h5]

end Cert.Reference2Ideal.Row

namespace Cert.Mlp

/-- The two programs' results are one function of the arguments they share. -/
theorem agree : Cert.algebraic_Kernel2Ideal_Reference2Ideal := by
  intro m ρ m' ρ' _ hag
  refine ⟨fun c => Cert.Kernel2Ideal.Row.res m c, ?_, ?_⟩
  · exact (θ_run _ _ _).mono (fun r h c => ⟨(h c).1.trans (Cert.Kernel2Ideal.Row.final m c), (h c).2⟩)
      (Cert.Kernel2Ideal.Value.run_blocks m ρ)
  · refine (θ_run _ _ _).mono (fun r h c => ⟨(h c).1.trans ?_, (h c).2⟩) (Cert.Reference2Ideal.Value.run m' ρ')
    rw [Cert.Reference2Ideal.Read.val_main_v23_eq, Cert.Reference2Ideal.Row.v23_eq]
    obtain ⟨h0, h1, h2, h3, h4, h5, h6⟩ := hag c
    unfold Cert.Kernel2Ideal.Row.res
    rw [h0, h1, h2, h3, h4, h5, h6]

end Cert.Mlp

end
-- ==== Proof.KvqIBuf.lean ====
/- The key, value and query call, one grid point: what the two normalised copies of a batch's rows hold once stored, and the body run at a
   batch's first group of heads and at the later ones. -/
module

public import proofs.«01_k».proof.Proof.Gen.Kernel3Ideal.Frame
public import proofs.«01_k».proof.Proof.Gen.Kernel3Ideal.Skeleton
public import proofs.«01_k».proof.Proof.Gen.Kernel3Ideal.Loops
public import proofs.«01_k».proof.Proof.Gen.Kernel3Ideal.Points
public import proofs.«01_k».proof.Proof.Gen.Kernel3Ideal.Launch
public import Idealize.ShloMosaic.Lib.VecWindow
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Mathlib.Tactic.IntervalCases
public import Mathlib.Tactic.FinCases

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel3Ideal.Kvq

open Cert.Kernel3Ideal Cert.Kernel3Ideal.Gen

variable {F : FTy → Type} [FloatOps F] [Named F]

theorem inbRows : ∀ (k : Fin k0_t1_loop.trips) (a : Fin 3), k0_off1 k a + S1x512x1024.size a ≤ S1x2048x1024.size a := by decide +kernel
theorem inbKv : ∀ (k : Fin k0_t1_loop.trips) (a : Fin 2), k0_off2 k a + S512x1024.size a ≤ S2064x1024.size a := by decide +kernel
theorem inbQ : ∀ (k : Fin k0_t1_loop.trips) (a : Fin 2), k0_off3 k a + S512x1024.size a ≤ S2048x1024.size a := by decide +kernel

/-- The 512 token rows the loop's trip `k` reads. -/
def rows (x1 : Vec F S1x2048x1024 .f32) (k : Fin k0_t1_loop.trips) : Vec F S1x512x1024 .f32 :=
  View.ld x1 (Rect.unit (s := S1x2048x1024) (k0_off1 k) S1x512x1024.size (inbRows k))

/-- Trip `k`'s store of rows normalised for the keys and values, -/
def kvPiece (x1 : Vec F S1x2048x1024 .f32) (x2 : Vec F S1x1024 .f32) (k : Fin k0_t1_loop.trips) : View.Piece (Elt F) S2064x1024 .bf16 :=
  ⟨Rect.unit (s := S2064x1024) (k0_off2 k) S512x1024.size (inbKv k), k0_pay4 (rows x1 k) x2⟩
/-- for the queries, -/
def qPiece (x1 : Vec F S1x2048x1024 .f32) (x3 : Vec F S1x1024 .f32) (k : Fin k0_t1_loop.trips) : View.Piece (Elt F) S2048x1024 .bf16 :=
  ⟨Rect.unit (s := S2048x1024) (k0_off3 k) S512x1024.size (inbQ k), k0_pay5 (rows x1 k) x3⟩
/-- and the store of the sixteen leading rows. -/
def metaPiece (x0 : Vec F S16x1024 .f32) (x2 : Vec F S1x1024 .f32) : View.Piece (Elt F) S2064x1024 .bf16 :=
  ⟨Rect.unit (s := S2064x1024) ![0, 0] S16x1024.size inb_S2064x1024_S16x1024_0_0, k0_pay2 x0 x2⟩

/-- The loop's trips. -/
abbrev tr (n : ℕ) (h : n < 4 := by decide) : Fin k0_t1_loop.trips := ⟨n, h⟩

/-- All the stores into the key and value copy, last first. -/
def kvL (x0 : Vec F S16x1024 .f32) (x1 : Vec F S1x2048x1024 .f32) (x2 : Vec F S1x1024 .f32) : List (View.Piece (Elt F) S2064x1024 .bf16) :=
  [kvPiece x1 x2 (tr 3), kvPiece x1 x2 (tr 2), kvPiece x1 x2 (tr 1), kvPiece x1 x2 (tr 0), metaPiece x0 x2]
/-- All the stores into the query copy, last first. -/
def qL (x1 : Vec F S1x2048x1024 .f32) (x3 : Vec F S1x1024 .f32) : List (View.Piece (Elt F) S2048x1024 .bf16) :=
  [qPiece x1 x3 (tr 3), qPiece x1 x3 (tr 2), qPiece x1 x3 (tr 1), qPiece x1 x3 (tr 0)]

/-- What the key and value copy holds: the leading rows and the batch's token rows, normalised. -/
def kvBuf (x0 : Vec F S16x1024 .f32) (x1 : Vec F S1x2048x1024 .f32) (x2 : Vec F S1x1024 .f32) : Vec F S2064x1024 .bf16 :=
  View.canon (kvL x0 x1 x2)
/-- What the query copy holds: the batch's token rows, normalised. -/
def qBuf (x1 : Vec F S1x2048x1024 .f32) (x3 : Vec F S1x1024 .f32) : Vec F S2048x1024 .bf16 :=
  View.canon (qL x1 x3)

/-- Every row of the key and value copy is stored. -/
theorem kv_cover (x0 : Vec F S16x1024 .f32) (x1 : Vec F S1x2048x1024 .f32) (x2 : Vec F S1x1024 .f32) (y : S2064x1024.Idx) :
    ∃ p ∈ kvL x0 x1 x2, y ∈ p.1.set := by
  have h0 : (y 0).val < 2064 := (y 0).isLt
  have h1 : (y 1).val < 1024 := (y 1).isLt
  by_cases hm : (y 0).val < 16
  · refine ⟨metaPiece x0 x2, by simp [kvL], (Rect.mem_set_unit (inb := inb_S2064x1024_S16x1024_0_0)).mpr fun a => ?_⟩
    fin_cases a
    · show 0 ≤ (y 0).val ∧ (y 0).val < 0 + 16; omega
    · show 0 ≤ (y 1).val ∧ (y 1).val < 0 + 1024; omega
  · have hk : ((y 0).val - 16) / 512 < 4 := by omega
    refine ⟨kvPiece x1 x2 (tr _ hk), ?_, (Rect.mem_set_unit (inb := inbKv _)).mpr fun a => ?_⟩
    · generalize ((y 0).val - 16) / 512 = n at hk
      interval_cases n <;> simp [kvL]
    · rw [k0_off2_eq]
      fin_cases a
      · show 512 * (((y 0).val - 16) / 512) + 16 ≤ (y 0).val ∧ (y 0).val < 512 * (((y 0).val - 16) / 512) + 16 + 512; omega
      · show 0 ≤ (y 1).val ∧ (y 1).val < 0 + 1024; omega

/-- Every row of the query copy is stored. -/
theorem q_cover (x1 : Vec F S1x2048x1024 .f32) (x3 : Vec F S1x1024 .f32) (y : S2048x1024.Idx) :
    ∃ p ∈ qL x1 x3, y ∈ p.1.set := by
  have h0 : (y 0).val < 2048 := (y 0).isLt
  have h1 : (y 1).val < 1024 := (y 1).isLt
  have hk : (y 0).val / 512 < 4 := by omega
  refine ⟨qPiece x1 x3 (tr _ hk), ?_, (Rect.mem_set_unit (inb := inbQ _)).mpr fun a => ?_⟩
  · generalize (y 0).val / 512 = n at hk
    interval_cases n <;> simp [qL]
  · rw [k0_off3_eq]
    fin_cases a
    · show 512 * ((y 0).val / 512) ≤ (y 0).val ∧ (y 0).val < 512 * ((y 0).val / 512) + 512; omega
    · show 0 ≤ (y 1).val ∧ (y 1).val < 0 + 1024; omega

variable (c : Dev nD) (i : grid0.Coords)
    (arg2 : Memref sig .tc .vmem S16x1024 .f32) (harg2 : arg2.IsWhole)
    (arg3 : Memref sig .tc .vmem S1x2048x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S16x1024 .bf16) (harg8 : arg8.IsWhole)
    (arg9 : Memref sig .tc .vmem S16x1 .f32) (harg9 : arg9.IsWhole)
    (arg10 : Memref sig .tc .vmem S256x1024 .bf16) (harg10 : arg10.IsWhole)
    (arg11 : Memref sig .tc .vmem S64x1 .f32) (harg11 : arg11.IsWhole)
    (arg12 : Memref sig .tc .vmem S64x1 .f32) (harg12 : arg12.IsWhole)
    (arg13 : Memref sig .tc .vmem S1x4x64x2064 .f32) (harg13 : arg13.IsWhole)
    (arg14 : Memref sig .tc .vmem S1x4x64x2064 .f32) (harg14 : arg14.IsWhole)
    (arg15 : Memref sig .tc .vmem S1x16x2064 .f32) (harg15 : arg15.IsWhole)
    (arg16 : Memref sig .tc .vmem S1x4x64x2048 .bf16) (harg16 : arg16.IsWhole)
    (arg17 : Memref sig .tc .vmem S2064x1024 .bf16) (harg17 : arg17.IsWhole)
    (arg18 : Memref sig .tc .vmem S2048x1024 .bf16) (harg18 : arg18.IsWhole)

/-- One trip's stores are the two stated pieces. -/
theorem trip_eq (k0_h1 : k0_cond1 i = 1#1) (x1 : Vec F S1x2048x1024 .f32) (x2 x3 : Vec F S1x1024 .f32) (k : Fin k0_t1_loop.trips) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (harg3.unread x1) (harg4.unread x2) (harg5.unread x3) k
      = ([kvPiece x1 x2 k], [qPiece x1 x3 k]) := by
  have e : tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (harg3.unread x1) (harg4.unread x2) (harg5.unread x3) k
      = ([⟨Rect.unit (s := S2064x1024) (k0_off2 k) S512x1024.size (inbKv k),
            k0_pay4 (arg3.view.readAt (Elt F) (Rect.unit (s := S1x2048x1024) (k0_off1 k) S1x512x1024.size (inbRows k)).toLoadRect (harg3.unread x1))
              (arg4.view.readAt (Elt F) (Rect.unit (s := S1x1024) ![0, 0] S1x1024.size inb_S1x1024_S1x1024_0_0).toLoadRect (harg4.unread x2))⟩],
         [⟨Rect.unit (s := S2048x1024) (k0_off3 k) S512x1024.size (inbQ k),
            k0_pay5 (arg3.view.readAt (Elt F) (Rect.unit (s := S1x2048x1024) (k0_off1 k) S1x512x1024.size (inbRows k)).toLoadRect (harg3.unread x1))
              (arg5.view.readAt (Elt F) (Rect.unit (s := S1x1024) ![0, 0] S1x1024.size inb_S1x1024_S1x1024_0_0).toLoadRect (harg5.unread x3))⟩]) := by
    unfold tripL_k0_t1 trip_k0_t1; rfl
  rw [e, View.readAt_eq_ld, View.readAt_full arg4.view, View.readAt_full arg5.view, harg3.read_unread, harg4.read_unread, harg5.read_unread]
  rfl

/-- All the trips' stores. -/
theorem pb_eq (k0_h1 : k0_cond1 i = 1#1) (x1 : Vec F S1x2048x1024 .f32) (x2 x3 : Vec F S1x1024 .f32) :
    pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (harg3.unread x1) (harg4.unread x2) (harg5.unread x3) 4
      = ([kvPiece x1 x2 (tr 3), kvPiece x1 x2 (tr 2), kvPiece x1 x2 (tr 1), kvPiece x1 x2 (tr 0)], qL x1 x3) := by
  have s : ∀ k : Fin k0_t1_loop.trips, pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (harg3.unread x1) (harg4.unread x2) (harg5.unread x3) (k.val + 1)
      = (kvPiece x1 x2 k :: (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (harg3.unread x1) (harg4.unread x2) (harg5.unread x3) k.val).1,
         qPiece x1 x3 k :: (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (harg3.unread x1) (harg4.unread x2) (harg5.unread x3) k.val).2) := fun k => by
    rw [pb_k0_t1_succ, trip_eq]; rfl
  have s3 := s (tr 3); have s2 := s (tr 2); have s1 := s (tr 1); have s0 := s (tr 0)
  simp only [Nat.reduceAdd] at s3 s2 s1 s0
  rw [s3, s2, s1, s0]
  rfl

end Cert.Kernel3Ideal.Kvq

end
-- ==== Proof.KvqIRun.lean ====
/- The key, value and query call: the body run at one grid point, with what it leaves in each buffer. -/
module

public import proofs.«01_k».proof.Proof.KvqIBuf

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel3Ideal.Kvq

open Cert.Kernel3Ideal Cert.Kernel3Ideal.Gen

variable {F : FTy → Type} [FloatOps F] [Named F]

/-- The store into a buffer of the whole of it reads back as what was stored. -/
theorem read_whole {κ : Kind} {sp : Space} {s : Shape} {e : EltTy} (v : View sig κ sp s e) (f : v.ty.Contents (Elt F)) {off : Fin s.rank → ℕ}
    (inb : ∀ a, off a + s.size a ≤ s.size a) (w : (Rect.unit off s.size inb).shape.Idx → Elt F e) (w' : s.Idx → Elt F e) (h : w = w') :
    v.read (Elt F) (v.writes (Elt F) f [⟨Rect.unit off s.size inb, w⟩]) = w' := by
  rw [View.read_writes_full]; exact h

variable (c : Dev nD) (i : grid0.Coords)
    (arg2 : Memref sig .tc .vmem S16x1024 .f32) (harg2 : arg2.IsWhole)
    (arg3 : Memref sig .tc .vmem S1x2048x1024 .f32) (harg3 : arg3.IsWhole)
    (arg4 : Memref sig .tc .vmem S1x1024 .f32) (harg4 : arg4.IsWhole)
    (arg5 : Memref sig .tc .vmem S1x1024 .f32) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S16x1024 .bf16) (harg8 : arg8.IsWhole)
    (arg9 : Memref sig .tc .vmem S16x1 .f32) (harg9 : arg9.IsWhole)
    (arg10 : Memref sig .tc .vmem S256x1024 .bf16) (harg10 : arg10.IsWhole)
    (arg11 : Memref sig .tc .vmem S64x1 .f32) (harg11 : arg11.IsWhole)
    (arg12 : Memref sig .tc .vmem S64x1 .f32) (harg12 : arg12.IsWhole)
    (arg13 : Memref sig .tc .vmem S1x4x64x2064 .f32) (harg13 : arg13.IsWhole)
    (arg14 : Memref sig .tc .vmem S1x4x64x2064 .f32) (harg14 : arg14.IsWhole)
    (arg15 : Memref sig .tc .vmem S1x16x2064 .f32) (harg15 : arg15.IsWhole)
    (arg16 : Memref sig .tc .vmem S1x4x64x2048 .bf16) (harg16 : arg16.IsWhole)
    (arg17 : Memref sig .tc .vmem S2064x1024 .bf16) (harg17 : arg17.IsWhole)
    (arg18 : Memref sig .tc .vmem S2048x1024 .bf16) (harg18 : arg18.IsWhole)
    (x0 : Vec F S16x1024 .f32)
    (x1 : Vec F S1x2048x1024 .f32)
    (x2 : Vec F S1x1024 .f32)
    (x3 : Vec F S1x1024 .f32)
    (x4 : Vec F S256x1024 .bf16)
    (x5 : Vec F S256x1024 .bf16)
    (x6 : Vec F S16x1024 .bf16)
    (x7 : Vec F S16x1 .f32)
    (x8 : Vec F S256x1024 .bf16)
    (x9 : Vec F S64x1 .f32)
    (x10 : Vec F S64x1 .f32)

/-- A whole load of the key and value copy after a batch's stores. -/
theorem kv_load (f : arg17.view.ty.Contents (Elt F)) (x0 : Vec F S16x1024 .f32) (x1 : Vec F S1x2048x1024 .f32) (x2 : Vec F S1x1024 .f32) :
    arg17.view.read (Elt F) (arg17.view.writes (Elt F) f (kvL x0 x1 x2)) = kvBuf x0 x1 x2 :=
  View.read_writes_eq_canon _ _ _ (kv_cover x0 x1 x2)

/-- A whole load of the query copy after a batch's stores. -/
theorem q_load (f : arg18.view.ty.Contents (Elt F)) (x1 : Vec F S1x2048x1024 .f32) (x3 : Vec F S1x1024 .f32) :
    arg18.view.read (Elt F) (arg18.view.writes (Elt F) f (qL x1 x3)) = qBuf x1 x3 :=
  View.read_writes_eq_canon _ _ _ (q_cover x1 x3)

/-- The body's stores into the key and value copy are the stated pieces, -/
theorem kv_pieces (k0_h1 : k0_cond1 i = 1#1) :
    (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (harg3.unread x1) (harg4.unread x2) (harg5.unread x3)
        (Scf.trips k0_t1_loop.lb k0_t1_loop.ub k0_t1_loop.st)).1
      ++ [⟨Rect.unit (s := S2064x1024) ![0, 0] S16x1024.size inb_S2064x1024_S16x1024_0_0,
            k0_pay2 (arg2.view.readAt (Elt F) (Rect.unit (s := S16x1024) ![0, 0] S16x1024.size inb_S16x1024_S16x1024_0_0).toLoadRect (harg2.unread x0))
              (arg4.view.readAt (Elt F) (Rect.unit (s := S1x1024) ![0, 0] S1x1024.size inb_S1x1024_S1x1024_0_0).toLoadRect (harg4.unread x2))⟩]
      = kvL x0 x1 x2 := by
  rw [show Scf.trips k0_t1_loop.lb k0_t1_loop.ub k0_t1_loop.st = 4 from by decide, pb_eq, View.readAt_full arg2.view, View.readAt_full arg4.view,
    harg2.read_unread, harg4.read_unread]
  rfl

/-- and those into the query copy. -/
theorem q_pieces (k0_h1 : k0_cond1 i = 1#1) :
    (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h1 (harg3.unread x1) (harg4.unread x2) (harg5.unread x3)
        (Scf.trips k0_t1_loop.lb k0_t1_loop.ub k0_t1_loop.st)).2 = qL x1 x3 := by
  rw [show Scf.trips k0_t1_loop.lb k0_t1_loop.ub k0_t1_loop.st = 4 from by decide, pb_eq]

set_option maxHeartbeats 2000000 in
/-- The body at a batch's first group of heads: it stores the normalised rows, then the gate, the keys, the values and the queries. -/
theorem runA (hc0 : k0_cond1 i = 1#1) (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
      ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ owns (c : Thread nD τ) arg13 fullShare (k0_pay8 (kvBuf x0 x1 x2) x4 x9) ∗ owns (c : Thread nD τ) arg14 fullShare (k0_pay9 (kvBuf x0 x1 x2) x5) ∗ owns (c : Thread nD τ) arg15 fullShare (k0_pay7 (k0_pay6 x6 (kvBuf x0 x1 x2) x7)) ∗ owns (c : Thread nD τ) arg16 fullShare (k0_pay1 x8 (qBuf x1 x3) x10) ∗ owns (c : Thread nD τ) arg17 fullShare (kvBuf x0 x1 x2) ∗ owns (c : Thread nD τ) arg18 fullShare (qBuf x1 x3)) -∗ K ⟨⟩))
      ⊢ wp frame (wpE (defs₀ (F := F)) Variants.none c none) E (cc0_kvq_seq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_kvq_seq_eq_skeleton]; unfold cc0_kvq_seq_skel
  simp only [k0_part2_eq_skeleton]; unfold k0_part2_skel
  simp only [dif_pos hc0, k0_part1_eq_skeleton]; unfold k0_part1_skel
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro
    refine read_whole _ _ _ _ _ (congr (congr (congrArg k0_pay8 ?_) ?_) ?_)
    · unfold runA.sl.x; exact (View.readAt_full _ _ _).trans ((congrArg (fun L => arg17.view.read (Elt F) (arg17.view.writes (Elt F) fs0 L)) (kv_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 hc0)).trans (kv_load arg17 fs0 x0 x1 x2))
    · exact (View.readAt_full _ _ _).trans (harg6.read_unread _)
    · exact (View.readAt_full _ _ _).trans (harg11.read_unread _)
  isplitl [H12]
  · iexists _; isplitr
    swap; · iexact H12
    ipureintro
    refine read_whole _ _ _ _ _ (congr (congrArg k0_pay9 ?_) ?_)
    · unfold runA.sl.x; exact (View.readAt_full _ _ _).trans ((congrArg (fun L => arg17.view.read (Elt F) (arg17.view.writes (Elt F) fs0 L)) (kv_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 hc0)).trans (kv_load arg17 fs0 x0 x1 x2))
    · exact (View.readAt_full _ _ _).trans (harg7.read_unread _)
  isplitl [H13]
  · iexists _; isplitr
    swap; · iexact H13
    ipureintro
    refine read_whole _ _ _ _ _ (congrArg k0_pay7 (congr (congr (congrArg k0_pay6 ?_) ?_) ?_))
    · exact (View.readAt_full _ _ _).trans (harg8.read_unread _)
    · unfold runA.sl.x; exact (View.readAt_full _ _ _).trans ((congrArg (fun L => arg17.view.read (Elt F) (arg17.view.writes (Elt F) fs0 L)) (kv_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 hc0)).trans (kv_load arg17 fs0 x0 x1 x2))
    · exact (View.readAt_full _ _ _).trans (harg9.read_unread _)
  isplitl [H14]
  · iexists _; isplitr
    swap; · iexact H14
    ipureintro
    refine read_whole _ _ _ _ _ (congr (congr (congrArg k0_pay1 ?_) ?_) ?_)
    · exact (View.readAt_full _ _ _).trans (harg10.read_unread _)
    · unfold runA.sl.v35; exact (View.readAt_full _ _ _).trans ((congrArg (fun L => arg18.view.read (Elt F) (arg18.view.writes (Elt F) fs1 L)) (q_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 hc0)).trans (q_load arg18 fs1 x1 x3))
    · exact (View.readAt_full _ _ _).trans (harg12.read_unread _)
  isplitl [HS0]
  · iexists _; isplitr
    swap; · iexact HS0
    ipureintro
    exact (congrArg (fun L => arg17.view.read (Elt F) (arg17.view.writes (Elt F) fs0 L)) (kv_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 hc0)).trans (kv_load arg17 fs0 x0 x1 x2)
  iexists _; isplitr
  swap; · iexact HS1
  ipureintro
  exact (congrArg (fun L => arg18.view.read (Elt F) (arg18.view.writes (Elt F) fs1 L)) (q_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x1 x2 x3 hc0)).trans (q_load arg18 fs1 x1 x3)

set_option maxHeartbeats 2000000 in
/-- The body at a later group of heads: the normalised rows and the gate stay as they are, the keys, the values and the queries are stored. -/
theorem runB (hc0 : ¬ k0_cond1 i = 1#1) (xo : Vec F S1x16x2064 .f32) (xs0 : Vec F S2064x1024 .bf16) (xs1 : Vec F S2048x1024 .bf16)
    (E : Set ℕ) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
      ∗ (∃ d, owns (c : Thread nD τ) arg13 fullShare d) ∗ (∃ d, owns (c : Thread nD τ) arg14 fullShare d) ∗ owns (c : Thread nD τ) arg15 fullShare xo ∗ (∃ d, owns (c : Thread nD τ) arg16 fullShare d) ∗ owns (c : Thread nD τ) arg17 fullShare xs0 ∗ owns (c : Thread nD τ) arg18 fullShare xs1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10
        ∗ owns (c : Thread nD τ) arg13 fullShare (k0_pay8 xs0 x4 x9) ∗ owns (c : Thread nD τ) arg14 fullShare (k0_pay9 xs0 x5) ∗ owns (c : Thread nD τ) arg15 fullShare xo ∗ owns (c : Thread nD τ) arg16 fullShare (k0_pay1 x8 xs1 x10) ∗ owns (c : Thread nD τ) arg17 fullShare xs0 ∗ owns (c : Thread nD τ) arg18 fullShare xs1) -∗ K ⟨⟩))
      ⊢ wp frame (wpE (defs₀ (F := F)) Variants.none c none) E (cc0_kvq_seq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_kvq_seq_eq_skeleton]; unfold cc0_kvq_seq_skel
  simp only [k0_part2_eq_skeleton]; unfold k0_part2_skel
  simp only [dif_neg hc0]
  simp only [bind_assoc, pure_bind]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, ⟨%fs0, %hfs0, HS0⟩, ⟨%fs1, %hfs1, HS1⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg12.eq_unread hf10
  obtain rfl := harg15.eq_unread hf13
  obtain rfl := harg17.eq_unread hfs0
  obtain rfl := harg18.eq_unread hfs1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro
    refine read_whole _ _ _ _ _ (congr (congr (congrArg k0_pay8 ?_) ?_) ?_)
    · exact (View.readAt_full _ _ _).trans (harg17.read_unread _)
    · exact (View.readAt_full _ _ _).trans (harg6.read_unread _)
    · exact (View.readAt_full _ _ _).trans (harg11.read_unread _)
  isplitl [H12]
  · iexists _; isplitr
    swap; · iexact H12
    ipureintro
    refine read_whole _ _ _ _ _ (congr (congrArg k0_pay9 ?_) ?_)
    · exact (View.readAt_full _ _ _).trans (harg17.read_unread _)
    · exact (View.readAt_full _ _ _).trans (harg7.read_unread _)
  isplitl [H13]
  · iexists _; isplitr; · ipureintro; exact harg15.read_unread _
    iexact H13
  isplitl [H14]
  · iexists _; isplitr
    swap; · iexact H14
    ipureintro
    refine read_whole _ _ _ _ _ (congr (congr (congrArg k0_pay1 ?_) ?_) ?_)
    · exact (View.readAt_full _ _ _).trans (harg10.read_unread _)
    · exact (View.readAt_full _ _ _).trans (harg18.read_unread _)
    · exact (View.readAt_full _ _ _).trans (harg12.read_unread _)
  isplitl [HS0]
  · iexists _; isplitr; · ipureintro; exact harg17.read_unread _
    iexact HS0
  iexists _; isplitr; · ipureintro; exact harg18.read_unread _
  iexact HS1

end Cert.Kernel3Ideal.Kvq

end
-- ==== Proof.KvqIFrame.lean ====
/- The key, value and query call: what every buffer holds point by point, the run of the whole call and its frame (its idealization). -/
module

public import proofs.«01_k».proof.Proof.KvqIRun
public import proofs.«01_k».proof.Proof.Gen.Kernel3Ideal.Frame
public import Idealize.ShloMosaic.Lib.Claim

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.Kernel3Ideal.Kvq

open Cert.Kernel3Ideal Cert.Kernel3Ideal.Gen

variable {F : FTy → Type} [FloatOps F] [Named F]
variable (m : (ℓ : Loc nD τ sig) → Buf (Elt F) ℓ) (ρ : Dev nD → PrngReg)

/-- The body normalises the rows exactly at the first of a sequence's four points. -/
theorem first_iff : ∀ t : Fin cfg0.N, k0_cond1 (grid0.coords t) = 1#1 ↔ t.val % 4 = 0 :=
  (fun t => by
    have ht : t.val < 32 := Nat.lt_of_lt_of_eq t.isLt N_0
    have e1 : (grid0.coords t 1).val = t.val / 1 % 4 := Pipeline.Grid.coords_val t 1 (by decide) rfl
    simp only [k0_cond1, e1]
    word_cmp
   : ∀ t : Fin grid0.N, k0_cond1 (grid0.coords t) = 1#1 ↔ t.val % 4 = 0)

/-- The first point of the sequence that point `t` works on. -/
def base (t : Fin cfg0.N) : Fin cfg0.N := ⟨t.val / 4 * 4, lt_of_le_of_lt (Nat.div_mul_le_self _ _) t.isLt⟩

/-- A sequence's first point is its own. -/
theorem base_first (t : Fin cfg0.N) (h : t.val % 4 = 0) : base t = t := Fin.ext (by simp only [base]; omega)

/-- A later point works on the sequence of the point before it. -/
theorem base_prev (t : Fin cfg0.N) (h : ¬ t.val % 4 = 0) (hl : t.val - 1 < cfg0.N) : base ⟨t.val - 1, hl⟩ = base t :=
  Fin.ext (by simp only [base]; omega)

/-- The sequence's rows normalised for the keys and the values, as they stand after the body at point `t`, -/
def kvAt (c : Dev nD) (t : Fin cfg0.N) : Vec F S2064x1024 .bf16 := kvBuf (iblk m c 0 (base t)) (iblk m c 1 (base t)) (iblk m c 2 (base t))
/-- and those normalised for the queries. -/
def qAt (c : Dev nD) (t : Fin cfg0.N) : Vec F S2048x1024 .bf16 := qBuf (iblk m c 1 (base t)) (iblk m c 3 (base t))
/-- The keys stored at point `t`, -/
def ktAt (c : Dev nD) (t : Fin cfg0.N) : Vec F S1x4x64x2064 .f32 := k0_pay8 (kvAt m c t) (iblk m c 4 t) (iblk m c 9 t)
/-- the values, -/
def vtAt (c : Dev nD) (t : Fin cfg0.N) : Vec F S1x4x64x2064 .f32 := k0_pay9 (kvAt m c t) (iblk m c 5 t)
/-- the logarithm of the forget gate, stored at the sequence's first point, -/
def lftAt (c : Dev nD) (t : Fin cfg0.N) : Vec F S1x16x2064 .f32 := k0_pay7 (k0_pay6 (iblk m c 6 (base t)) (kvAt m c t) (iblk m c 7 (base t)))
/-- and the queries. -/
def qtAt (c : Dev nD) (t : Fin cfg0.N) : Vec F S1x4x64x2048 .bf16 := k0_pay1 (iblk m c 8 t) (qAt m c t) (iblk m c 10 t)

/-- The invariant before point `n`: at the start any contents, later the two row buffers at what point `n - 1` left in them. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) (Memref.whole cc0_scratch0) fullShare (kvAt m c ⟨n, hn⟩)
      ∗ owns (c : Thread nD τ) (Memref.whole cc0_scratch1) fullShare (qAt m c ⟨n, hn⟩)) ∗ (∃ r, prngReg c r))

/-- Before the first point the row buffers hold anything. -/
theorem PhiS_zero (c : Dev nD) (n : ℕ) (h : n ≤ cfg0.N) (hz : n = 0) : PhiS m c n h = Pipeline.ΦA spec0 c := by
  subst hz; rfl

/-- After point `n` they hold its rows. -/
theorem PhiS_succ (c : Dev nD) (n : ℕ) (hn : n < cfg0.N) :
    PhiS m c (n + 1) hn = iprop(iprop(owns (c : Thread nD τ) (Memref.whole cc0_scratch0) fullShare (kvAt m c ⟨n, hn⟩)
      ∗ owns (c : Thread nD τ) (Memref.whole cc0_scratch1) fullShare (qAt m c ⟨n, hn⟩)) ∗ (∃ r, prngReg c r)) := rfl

/-- The same, read before a point that is not the first. -/
theorem PhiS_pos (c : Dev nD) (n : ℕ) (h : n ≤ cfg0.N) (hz : n ≠ 0) :
    PhiS m c n h = iprop(iprop(owns (c : Thread nD τ) (Memref.whole cc0_scratch0) fullShare (kvAt m c ⟨n - 1, by omega⟩)
      ∗ owns (c : Thread nD τ) (Memref.whole cc0_scratch1) fullShare (qAt m c ⟨n - 1, by omega⟩)) ∗ (∃ r, prngReg c r)) := by
  cases n with
  | zero => exact absurd rfl hz
  | succ n => rfl

/-- The proof data: each input's buffer keeps its block, each output's holds what the body stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => ktAt m c t
    | ⟨12, _⟩ => vtAt m c t
    | ⟨13, _⟩ => lftAt m c t
    | ⟨14, _⟩ => qtAt m c t
  Φ t := PhiS m c t.val (Nat.le_of_lt_succ t.isLt)
  q _ := fullShare
  owed _ := 0

/-- The proof data starts from the arrays as the call finds them. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in window 0. -/
theorem after0_0 (c : Dev nD) (t : Fin cfg0.N) : (dats m 0 c).after 0 t = iblk m c 0 t := by dsimp only [dats]
/-- What the body leaves in window 1. -/
theorem after0_1 (c : Dev nD) (t : Fin cfg0.N) : (dats m 0 c).after 1 t = iblk m c 1 t := by dsimp only [dats]
/-- What the body leaves in window 2. -/
theorem after0_2 (c : Dev nD) (t : Fin cfg0.N) : (dats m 0 c).after 2 t = iblk m c 2 t := by dsimp only [dats]
/-- What the body leaves in window 3. -/
theorem after0_3 (c : Dev nD) (t : Fin cfg0.N) : (dats m 0 c).after 3 t = iblk m c 3 t := by dsimp only [dats]
/-- What the body leaves in window 4. -/
theorem after0_4 (c : Dev nD) (t : Fin cfg0.N) : (dats m 0 c).after 4 t = iblk m c 4 t := by dsimp only [dats]
/-- What the body leaves in window 5. -/
theorem after0_5 (c : Dev nD) (t : Fin cfg0.N) : (dats m 0 c).after 5 t = iblk m c 5 t := by dsimp only [dats]
/-- What the body leaves in window 6. -/
theorem after0_6 (c : Dev nD) (t : Fin cfg0.N) : (dats m 0 c).after 6 t = iblk m c 6 t := by dsimp only [dats]
/-- What the body leaves in window 7. -/
theorem after0_7 (c : Dev nD) (t : Fin cfg0.N) : (dats m 0 c).after 7 t = iblk m c 7 t := by dsimp only [dats]
/-- What the body leaves in window 8. -/
theorem after0_8 (c : Dev nD) (t : Fin cfg0.N) : (dats m 0 c).after 8 t = iblk m c 8 t := by dsimp only [dats]
/-- What the body leaves in window 9. -/
theorem after0_9 (c : Dev nD) (t : Fin cfg0.N) : (dats m 0 c).after 9 t = iblk m c 9 t := by dsimp only [dats]
/-- What the body leaves in window 10. -/
theorem after0_10 (c : Dev nD) (t : Fin cfg0.N) : (dats m 0 c).after 10 t = iblk m c 10 t := by dsimp only [dats]
/-- What the body leaves in window 11. -/
theorem after0_11 (c : Dev nD) (t : Fin cfg0.N) : (dats m 0 c).after 11 t = ktAt m c t := by dsimp only [dats]
/-- What the body leaves in window 12. -/
theorem after0_12 (c : Dev nD) (t : Fin cfg0.N) : (dats m 0 c).after 12 t = vtAt m c t := by dsimp only [dats]
/-- What the body leaves in window 13. -/
theorem after0_13 (c : Dev nD) (t : Fin cfg0.N) : (dats m 0 c).after 13 t = lftAt m c t := by dsimp only [dats]
/-- What the body leaves in window 14. -/
theorem after0_14 (c : Dev nD) (t : Fin cfg0.N) : (dats m 0 c).after 14 t = qtAt m c t := by dsimp only [dats]
/-- What the body finds in window 0. -/
theorem before0_0 (c : Dev nD) (t : Fin cfg0.N) (d) : (dats m 0 c).before 0 t d = iblk m c 0 t :=
  before0_0_of m (dats m 0 c) (A_eq m c 0) (after0_0 m c) t d
/-- What the body finds in window 1. -/
theorem before0_1 (c : Dev nD) (t : Fin cfg0.N) (d) : (dats m 0 c).before 1 t d = iblk m c 1 t :=
  before0_1_of m (dats m 0 c) (A_eq m c 1) (after0_1 m c) t d
/-- What the body finds in window 2. -/
theorem before0_2 (c : Dev nD) (t : Fin cfg0.N) (d) : (dats m 0 c).before 2 t d = iblk m c 2 t :=
  before0_2_of m (dats m 0 c) (A_eq m c 2) (after0_2 m c) t d
/-- What the body finds in window 3. -/
theorem before0_3 (c : Dev nD) (t : Fin cfg0.N) (d) : (dats m 0 c).before 3 t d = iblk m c 3 t :=
  before0_3_of m (dats m 0 c) (A_eq m c 3) (after0_3 m c) t d
/-- What the body finds in window 4. -/
theorem before0_4 (c : Dev nD) (t : Fin cfg0.N) (d) : (dats m 0 c).before 4 t d = iblk m c 4 t :=
  before0_4_of m (dats m 0 c) (A_eq m c 4) (after0_4 m c) t d
/-- What the body finds in window 5. -/
theorem before0_5 (c : Dev nD) (t : Fin cfg0.N) (d) : (dats m 0 c).before 5 t d = iblk m c 5 t :=
  before0_5_of m (dats m 0 c) (A_eq m c 5) (after0_5 m c) t d
/-- What the body finds in window 6. -/
theorem before0_6 (c : Dev nD) (t : Fin cfg0.N) (d) : (dats m 0 c).before 6 t d = iblk m c 6 t :=
  before0_6_of m (dats m 0 c) (A_eq m c 6) (after0_6 m c) t d
/-- What the body finds in window 7. -/
theorem before0_7 (c : Dev nD) (t : Fin cfg0.N) (d) : (dats m 0 c).before 7 t d = iblk m c 7 t :=
  before0_7_of m (dats m 0 c) (A_eq m c 7) (after0_7 m c) t d
/-- What the body finds in window 8. -/
theorem before0_8 (c : Dev nD) (t : Fin cfg0.N) (d) : (dats m 0 c).before 8 t d = iblk m c 8 t :=
  before0_8_of m (dats m 0 c) (A_eq m c 8) (after0_8 m c) t d
/-- What the body finds in window 9. -/
theorem before0_9 (c : Dev nD) (t : Fin cfg0.N) (d) : (dats m 0 c).before 9 t d = iblk m c 9 t :=
  before0_9_of m (dats m 0 c) (A_eq m c 9) (after0_9 m c) t d
/-- What the body finds in window 10. -/
theorem before0_10 (c : Dev nD) (t : Fin cfg0.N) (d) : (dats m 0 c).before 10 t d = iblk m c 10 t :=
  before0_10_of m (dats m 0 c) (A_eq m c 10) (after0_10 m c) t d

/-- The gate's window is idle exactly at the points that store no gate. -/
theorem idle_13 (t : Fin cfg0.N) : cfg0.idle 13 (grid0.coords t) = !decide (t.val % 4 = 0) := by
  have e : cfg0.idle 13 (grid0.coords t) = !(k0_cond1 (grid0.coords t) == 1#1) := rfl
  rw [e]
  by_cases h : t.val % 4 = 0
  · rw [(first_iff t).mpr h]; simp [h]
  · have : k0_cond1 (grid0.coords t) ≠ 1#1 := fun h' => h ((first_iff t).mp h')
    simp [h, this]

/-- The gate's buffer is not stored into at a sequence's later points, and it still holds what the first one stored. -/
theorem before0_13_later (c : Dev nD) : ∀ (n : ℕ) (t : Fin cfg0.N), t.val = n → ¬t.val % 4 = 0 → ∀ d, (dats m 0 c).before 13 t d = lftAt m c t
  | 0, t, hn, h0, d => absurd (by rw [hn]) h0
  | n + 1, t, hn, h0, d => by
    have hN : t.val < 32 := lt_of_lt_of_eq t.isLt (show cfg0.N = 32 from N_0)
    have hp : t.val - 1 < cfg0.N := Nat.lt_of_le_of_lt (Nat.sub_le _ _) t.isLt
    have hl : lftAt m c ⟨t.val - 1, hp⟩ = lftAt m c t := by unfold lftAt kvAt; rw [base_prev t h0]
    rw [Dat.before_of_pos (dats m 0 c) 13 t (by omega) ((cfg0.win 13).fetch_out rfl t),
      show (cfg0.win 13).flush ⟨t.val - 1, hp⟩ = false from
        Bool.eq_false_iff.mpr fun h => by have := (flush0_13 _).mp h; dsimp only at this; omega,
      if_neg Bool.false_ne_true]
    unfold Dat.left
    rw [show cfg0.idle 13 (cfg0.grid.coords ⟨t.val - 1, hp⟩) = !decide ((t.val - 1) % 4 = 0) from idle_13 ⟨t.val - 1, hp⟩]
    by_cases h1 : (t.val - 1) % 4 = 0
    · simp only [h1, decide_true, Bool.not_true]
      unfold Dat.kept
      rw [Pipeline.fill_of_clip_none 13 _ (fun _ => rfl) d ((dats m 0 c).after 13 _), Pipeline.Window.fill_cut, after0_13, hl]
    · simp only [h1, decide_false, Bool.not_false]
      rw [before0_13_later c n ⟨t.val - 1, hp⟩ (by simp only; omega) h1 d, hl]

/-- The gate's buffer, holding the sequence's gate, is what any of its points has to leave. -/
theorem leaves_13 (c : Dev nD) (t : Fin cfg0.N) (x : Vec F S1x16x2064 .f32) (hx : x = lftAt m c t) :
    owns (c : Thread nD τ) (win0_13.stage (cfg0.slots t 13)) fullShare x ⊢ (dats m 0 c).leavesExact 13 t := by
  subst hx
  by_cases h0 : t.val % 4 = 0
  · have e : (dats m 0 c).leavesExact 13 t = owns (c : Thread nD τ) (win0_13.stage (cfg0.slots t 13)) fullShare ((dats m 0 c).after 13 t) := by
      unfold Dat.leavesExact
      rw [show cfg0.idle 13 (cfg0.grid.coords t) = false from (idle_13 t).trans (by simp [h0])]
    rw [e, after0_13]
  · have hi : cfg0.idle 13 (cfg0.grid.coords t) = true := (idle_13 t).trans (by simp [h0])
    cases hf : (cfg0.win 13).flush t
    · rw [Dat.leavesExact_idle (dats m 0 c) 13 t hi hf]
      iintro H
      iexists (lftAt m c t)
      rw [before0_13_later m c t.val t rfl h0]
      iexact H
    · have e : (dats m 0 c).leavesExact 13 t = owns (c : Thread nD τ) (win0_13.stage (cfg0.slots t 13)) fullShare ((dats m 0 c).after 13 t) := by
        unfold Dat.leavesExact
        rw [hi, hf]
      rw [e, after0_13]

/-- The invariant at the start, as the two row buffers at some contents. -/
theorem PhiA_eq (c : Dev nD) :
    (Pipeline.ΦA spec0 c : sProp (MT nD τ sig Unit (Elt F) ℕ (UR sig nD τ) ℕ))
      = iprop(iprop((∃ d, owns (c : Thread nD τ) (Memref.whole cc0_scratch0) fullShare d) ∗ (∃ d, owns (c : Thread nD τ) (Memref.whole cc0_scratch1) fullShare d))
        ∗ (∃ r, prngReg c r)) := by
  unfold Pipeline.ΦA; rw [scopedRest0_eq]; simp only [owns_whole]; try rfl

/-- Window 0's current buffer at a point. -/
abbrev ms_0 (t : Fin cfg0.N) := win0_0.stage (cfg0.slots t 0)
/-- Window 1's current buffer at a point. -/
abbrev ms_1 (t : Fin cfg0.N) := win0_1.stage (cfg0.slots t 1)
/-- Window 2's current buffer at a point. -/
abbrev ms_2 (t : Fin cfg0.N) := win0_2.stage (cfg0.slots t 2)
/-- Window 3's current buffer at a point. -/
abbrev ms_3 (t : Fin cfg0.N) := win0_3.stage (cfg0.slots t 3)
/-- Window 4's current buffer at a point. -/
abbrev ms_4 (t : Fin cfg0.N) := win0_4.stage (cfg0.slots t 4)
/-- Window 5's current buffer at a point. -/
abbrev ms_5 (t : Fin cfg0.N) := win0_5.stage (cfg0.slots t 5)
/-- Window 6's current buffer at a point. -/
abbrev ms_6 (t : Fin cfg0.N) := win0_6.stage (cfg0.slots t 6)
/-- Window 7's current buffer at a point. -/
abbrev ms_7 (t : Fin cfg0.N) := win0_7.stage (cfg0.slots t 7)
/-- Window 8's current buffer at a point. -/
abbrev ms_8 (t : Fin cfg0.N) := win0_8.stage (cfg0.slots t 8)
/-- Window 9's current buffer at a point. -/
abbrev ms_9 (t : Fin cfg0.N) := win0_9.stage (cfg0.slots t 9)
/-- Window 10's current buffer at a point. -/
abbrev ms_10 (t : Fin cfg0.N) := win0_10.stage (cfg0.slots t 10)
/-- Window 11's current buffer at a point. -/
abbrev ms_11 (t : Fin cfg0.N) := win0_11.stage (cfg0.slots t 11)
/-- Window 12's current buffer at a point. -/
abbrev ms_12 (t : Fin cfg0.N) := win0_12.stage (cfg0.slots t 12)
/-- Window 13's current buffer at a point. -/
abbrev ms_13 (t : Fin cfg0.N) := win0_13.stage (cfg0.slots t 13)
/-- Window 14's current buffer at a point. -/
abbrev ms_14 (t : Fin cfg0.N) := win0_14.stage (cfg0.slots t 14)

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t)
    ∗ owns (c : Thread nD τ) (ms_7 t) fullShare ((dats m 0 c).after 7 t)
    ∗ owns (c : Thread nD τ) (ms_8 t) fullShare ((dats m 0 c).after 8 t)
    ∗ owns (c : Thread nD τ) (ms_9 t) fullShare ((dats m 0 c).after 9 t)
    ∗ owns (c : Thread nD τ) (ms_10 t) fullShare ((dats m 0 c).after 10 t)
    ∗ owns (c : Thread nD τ) (ms_11 t) fullShare ((dats m 0 c).after 11 t)
    ∗ owns (c : Thread nD τ) (ms_12 t) fullShare ((dats m 0 c).after 12 t)
    ∗ (dats m 0 c).leavesExact 13 t
    ∗ owns (c : Thread nD τ) (ms_14 t) fullShare ((dats m 0 c).after 14 t))

set_option maxHeartbeats 4000000 in
/-- The body at any point, by its two cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl,
    after0_0, after0_1, after0_2, after0_3, after0_4, after0_5, after0_6, after0_7, after0_8, after0_9, after0_10, after0_11, after0_12, after0_14]
  rw [show (dats m 0 c).Φ t.succ = PhiS m c (t.val + 1) t.isLt from rfl, PhiS_succ, show (⟨t.val, t.isLt⟩ : Fin cfg0.N) = t from rfl]
  by_cases h0 : t.val % 4 = 0
  · rw [PhiS_castSucc m c t]
    unfold ktAt vtAt qtAt kvAt qAt
    rw [base_first t h0]
    by_cases hz : t.val = 0
    · rw [PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (runA c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((first_iff t).mpr h0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexact HS0
      isplitl [HS1]; · iexact HS1
      iintro ⟨H0, H1, H2, H3, H4, H5, H6, H7, H8, H9, H10, H11, H12, H13, H14, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iapply (leaves_13 m c t _ (by unfold lftAt kvAt; rw [base_first t h0])); iexact H13
      iexact H14
    · rw [PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (runA c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((first_iff t).mpr h0) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [HS0]; · iexists _; iexact HS0
      isplitl [HS1]; · iexists _; iexact HS1
      iintro ⟨H0, H1, H2, H3, H4, H5, H6, H7, H8, H9, H10, H11, H12, H13, H14, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iapply (leaves_13 m c t _ (by unfold lftAt kvAt; rw [base_first t h0])); iexact H13
      iexact H14
  · simp only [before0_13_later m c t.val t rfl h0]
    rw [PhiS_castSucc m c t, PhiS_pos m c _ _ (fun hz => h0 (by rw [hz]))]
    rw [show kvAt m c ⟨t.val - 1, by omega⟩ = kvAt m c t by unfold kvAt; rw [base_prev t h0],
      show qAt m c ⟨t.val - 1, by omega⟩ = qAt m c t by unfold qAt; rw [base_prev t h0]]
    unfold ktAt vtAt qtAt
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (runB c (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (fun h => h0 ((first_iff t).mp h)) (lftAt m c t) (kvAt m c t) (qAt m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [H14]; · iexists _; iexact H14
    isplitl [HS0]; · iexact HS0
    isplitl [HS1]; · iexact HS1
    iintro ⟨H0, H1, H2, H3, H4, H5, H6, H7, H8, H9, H10, H11, H12, H13, H14, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iapply (leaves_13 m c t _ rfl); iexact H13
    iexact H14

/-- The body the call runs at a point is the one above. -/
theorem defs₀_row (t : Fin cfg0.N) :
    defs₀ (F := F) .tc cfg0.body (cfg0.bodyArgs t (cfg0.slots t)) = bodyAt0 t := by
  unfold defs₀; rw [Defs.onTc_tc]

/-- The body does at every point what the proof data says. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start, -/
theorem hin (c : Dev nD) : Pipeline.ΦA spec0 c ⊢ (dats m 0 c).Φ 0 := by
  rw [show (dats m 0 c).Φ 0 = PhiS m c 0 (Nat.zero_le _) from rfl, PhiS_zero m c 0 _ rfl]

/-- and gives the row buffers back at the end. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- The whole call runs to the end with every array at what the proof data says, and with no semaphore left raised. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_quiet m ρ)

/-- The call leaves its nine arguments as it found them, and no semaphore raised. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiet m ρ))

end Cert.Kernel3Ideal.Kvq

end
-- ==== Proof.KvqVal.lean ====
/- The key, value and query call: its rows and heads as formulas over the extended reals, and the kernel's payloads in those terms. -/
module

public import proofs.«01_k».proof.Proof.KvqIFrame
public import proofs.«01_k».proof.Proof.MlpRow
public import Idealize.ShloMosaic.Lib.Pipeline.ValueKit
public import Idealize.ShloMosaic.Lib.Pointwise
public import Mathlib.Tactic.NormNum
public import Mathlib.Tactic.Ring

@[expose] public section

set_option maxRecDepth 16384

noncomputable section

open Idealize.ShloMosaic Idealize.ShloMosaic.TcCoe Idealize.SL.Sem
open Idealize.ShloMosaic.Pipeline (Dat)
open scoped BigOperators

namespace Cert.Kvq

/-- The rows keys and values are made of: the sixteen leading rows, then a batch's token rows. -/
def seq (a : Fin 16 → Fin 1024 → EReal) (b : Fin 2048 → Fin 1024 → EReal) (n : Fin 2064) (l : Fin 1024) : EReal :=
  if h : n.val < 16 then a ⟨n.val, h⟩ l else b ⟨n.val - 16, by omega⟩ l

/-- A head's 64 features over their root mean square, times the gain. -/
def head (p g : Fin 64 → EReal) (d : Fin 64) : EReal :=
  p d * Ideal.rsqrt (Ideal.div (∑ e, p e * p e) (Ideal.ofBits .f32 0x42800000#32) + Ideal.ofBits .f32 0x358637BD#32) * g d

/-- The logarithm of a sigmoid, split on the sign of its argument. -/
def logsig (x : EReal) : EReal := min x 0 - Ideal.log1p (Ideal.exp (0 - max x (-x)))

end Cert.Kvq

namespace Cert.Kernel3Ideal.Kvq

open Cert.Kernel3Ideal Cert.Kernel3Ideal.Gen Cert.Kvq
open Cert.Mlp (nrm)

theorem pay2_apply (a : Vec Ideal S16x1024 .f32) (g : Vec Ideal S1x1024 .f32) (r : Fin 16) (l : Fin 1024) :
    k0_pay2 a g (ix2 r l) = nrm (fun k => a (ix2 r k)) (fun k => g (ix2 0 k)) l := by
  pointwise [k0_pay2, nrm]

theorem pay4_apply (a : Vec Ideal S1x512x1024 .f32) (g : Vec Ideal S1x1024 .f32) (r : Fin 512) (l : Fin 1024) :
    k0_pay4 a g (ix2 r l) = nrm (fun k => a (ix3 0 r k)) (fun k => g (ix2 0 k)) l := by
  pointwise [k0_pay4, k0_pay3, nrm]

theorem pay5_apply (a : Vec Ideal S1x512x1024 .f32) (g : Vec Ideal S1x1024 .f32) (r : Fin 512) (l : Fin 1024) :
    k0_pay5 a g (ix2 r l) = nrm (fun k => a (ix3 0 r k)) (fun k => g (ix2 0 k)) l := by
  pointwise [k0_pay5, k0_pay3, nrm]

theorem pay8_apply (x : Vec Ideal S2064x1024 .bf16) (w : Vec Ideal S256x1024 .bf16) (g : Vec Ideal S64x1 .f32)
    (h : Fin 4) (d : Fin 64) (n : Fin 2064) :
    k0_pay8 x w g (ix4 0 h d n)
      = head (fun e => ∑ l : Fin 1024, x (ix2 n l) * w (ix2 ⟨h.val * 64 + e.val, by omega⟩ l)) (fun e => g (ix2 e 0)) d := by
  pointwise [k0_pay8, head]
  simp only [mul_comm (x _)]

theorem pay9_apply (x : Vec Ideal S2064x1024 .bf16) (w : Vec Ideal S256x1024 .bf16) (h : Fin 4) (d : Fin 64) (n : Fin 2064) :
    k0_pay9 x w (ix4 0 h d n) = ∑ l : Fin 1024, x (ix2 n l) * w (ix2 ⟨h.val * 64 + d.val, by omega⟩ l) := by
  pointwise [k0_pay9]
  simp only [mul_comm (x _)]

theorem qscale_eq : Named.named (F := Ideal) κ "qscale" (φ := .f32) 0x3E38AA3B#32 = (((8 * (Real.log 2))⁻¹ : ℝ) : EReal) :=
  IdealRules.named_const.ideal_named_scalar _ _ _ _ rfl

theorem pay1_apply (x : Vec Ideal S2048x1024 .bf16) (w : Vec Ideal S256x1024 .bf16) (g : Vec Ideal S64x1 .f32)
    (h : Fin 4) (d : Fin 64) (n : Fin 2048) :
    k0_pay1 w x g (ix4 0 h d n)
      = head (fun e => ∑ l : Fin 1024, x (ix2 n l) * w (ix2 ⟨h.val * 64 + e.val, by omega⟩ l)) (fun e => g (ix2 e 0)) d
        * (((8 * (Real.log 2))⁻¹ : ℝ) : EReal) := by
  pointwise [k0_pay1, head]
  simp only [qscale_eq, mul_comm (x _)]

theorem pay7_apply (x : Vec Ideal S2064x1024 .bf16) (w : Vec Ideal S16x1024 .bf16) (b : Vec Ideal S16x1 .f32) (h : Fin 16) (n : Fin 2064) :
    k0_pay7 (k0_pay6 w x b) (ix3 0 h n) = logsig ((∑ l : Fin 1024, x (ix2 n l) * w (ix2 h l)) + b (ix2 h 0)) := by
  pointwise [k0_pay7, k0_pay6, logsig]
  simp only [mul_comm (x _)]
  rfl

theorem trips_lt (k : Fin k0_t1_loop.trips) : k.val < 4 := lt_of_lt_of_eq k.isLt (by decide)

/-- A trip's token rows are the batch's from 512 times the trip on. -/
theorem rows_apply (x1 : Vec Ideal S1x2048x1024 .f32) (k : Fin k0_t1_loop.trips) (r : Fin 512) (l : Fin 1024) :
    rows x1 k (ix3 0 r l) = x1 (ix3 0 ⟨512 * k.val + r.val, by have := trips_lt k; omega⟩ l) := by
  refine congrArg x1 (a₁ := (Rect.unit (s := S1x2048x1024) (k0_off1 k) S1x512x1024.size (inbRows k)).emb (ix3 0 r l)) ?_
  funext a
  refine Fin.ext ?_
  have h : k0_off1 k = _ := k0_off1_eq k
  fin_cases a <;> simp [Rect.emb, Rect.unit, h]

/-- The key and value copy holds the normalised rows of the sequence. -/
theorem kvBuf_apply (x0 : Vec Ideal S16x1024 .f32) (x1 : Vec Ideal S1x2048x1024 .f32) (x2 : Vec Ideal S1x1024 .f32) (n : Fin 2064) (l : Fin 1024) :
    kvBuf x0 x1 x2 (ix2 n l) = nrm (seq (fun r k => x0 (ix2 r k)) (fun r k => x1 (ix3 0 r k)) n) (fun k => x2 (ix2 0 k)) l := by
  have hk : ∀ (k : Fin k0_t1_loop.trips) (y : S512x1024.Idx), (kvPiece x1 x2 k).2 y
      = nrm (seq (fun r k => x0 (ix2 r k)) (fun r k => x1 (ix3 0 r k)) ((kvPiece x1 x2 k).1.emb y 0)) (fun k => x2 (ix2 0 k)) ((kvPiece x1 x2 k).1.emb y 1) := by
    intro k y
    idx_vars y
    refine (pay4_apply _ _ _ _).trans ?_
    have hk := trips_lt k
    have h : k0_off2 k = _ := k0_off2_eq k
    have e0 : (kvPiece x1 x2 k).1.emb (ix2 y0 y1) 0 = (⟨512 * k.val + 16 + y0.val, by omega⟩ : Fin 2064) :=
      Fin.ext (by show k0_off2 k 0 + 1 * y0.val = _; rw [h]; simp)
    have e1 : (kvPiece x1 x2 k).1.emb (ix2 y0 y1) 1 = y1 := Fin.ext (by show k0_off2 k 1 + 1 * y1.val = _; rw [h]; simp)
    rw [e0, e1]
    refine congrArg (fun f => nrm f _ y1) (funext fun l => ?_)
    rw [rows_apply, seq, dif_neg (by simp only []; omega)]
    simp only [show 512 * k.val + 16 + y0.val - 16 = 512 * k.val + y0.val by omega]
  refine (View.canon_apply_of_pieces (S := S2064x1024) (fun y : S2064x1024.Idx => nrm (seq (fun r k => x0 (ix2 r k)) (fun r k => x1 (ix3 0 r k)) (y 0)) (fun k => x2 (ix2 0 k)) (y 1)) _ ?_ (ix2 n l) (kv_cover x0 x1 x2 _)).trans rfl
  intro p hp
  simp only [kvL, List.mem_cons, List.not_mem_nil, or_false] at hp
  rcases hp with rfl | rfl | rfl | rfl | rfl
  · exact hk _
  · exact hk _
  · exact hk _
  · exact hk _
  · intro y
    idx_vars y
    refine (pay2_apply _ _ _ _).trans ?_
    have e0 : (metaPiece x0 x2).1.emb (ix2 y0 y1) 0 = (⟨y0.val, by omega⟩ : Fin 2064) :=
      Fin.ext (by show 0 + 1 * y0.val = _; simp)
    have e1 : (metaPiece x0 x2).1.emb (ix2 y0 y1) 1 = y1 := Fin.ext (by show 0 + 1 * y1.val = _; omega)
    simp only [e0, e1]
    refine congrArg (fun f => nrm f _ y1) (funext fun l => ?_)
    rw [seq, dif_pos y0.isLt]

/-- The query copy holds the batch's normalised token rows. -/
theorem qBuf_apply (x1 : Vec Ideal S1x2048x1024 .f32) (x3 : Vec Ideal S1x1024 .f32) (n : Fin 2048) (l : Fin 1024) :
    qBuf x1 x3 (ix2 n l) = nrm (fun k => x1 (ix3 0 n k)) (fun k => x3 (ix2 0 k)) l := by
  have hk : ∀ (k : Fin k0_t1_loop.trips) (y : S512x1024.Idx), (qPiece x1 x3 k).2 y
      = nrm (fun l => x1 (ix3 0 ((qPiece x1 x3 k).1.emb y 0) l)) (fun k => x3 (ix2 0 k)) ((qPiece x1 x3 k).1.emb y 1) := by
    intro k y
    idx_vars y
    refine (pay5_apply _ _ _ _).trans ?_
    have hk := trips_lt k
    have h : k0_off3 k = _ := k0_off3_eq k
    have e0 : (qPiece x1 x3 k).1.emb (ix2 y0 y1) 0 = (⟨512 * k.val + y0.val, by omega⟩ : Fin 2048) :=
      Fin.ext (by show k0_off3 k 0 + 1 * y0.val = _; rw [h]; simp)
    have e1 : (qPiece x1 x3 k).1.emb (ix2 y0 y1) 1 = y1 := Fin.ext (by show k0_off3 k 1 + 1 * y1.val = _; rw [h]; simp)
    rw [e0, e1]
    exact congrArg (fun f => nrm f _ y1) (funext fun l => rows_apply x1 k y0 l)
  refine (View.canon_apply_of_pieces (S := S2048x1024) (fun y : S2048x1024.Idx => nrm (fun k => x1 (ix3 0 (y 0) k)) (fun k => x3 (ix2 0 k)) (y 1)) _ ?_ (ix2 n l) (q_cover x1 x3 _)).trans rfl
  intro p hp
  simp only [qL, List.mem_cons, List.not_mem_nil, or_false] at hp
  rcases hp with rfl | rfl | rfl | rfl
  · exact hk _
  · exact hk _
  · exact hk _
  · exact hk _

end Cert.Kernel3Ideal.Kvq

end
-- ==== Proof.KvqMain.lean ====
/- The key, value and query call: its four results, at every index, as formulas of its arguments. -/
module

public import proofs.«01_k».proof.Proof.KvqVal

@[expose] public section

set_option maxRecDepth 16384

noncomputable section

open Idealize.ShloMosaic Idealize.ShloMosaic.TcCoe Idealize.SL.Sem
open Idealize.ShloMosaic.Pipeline (Dat)
open scoped BigOperators

namespace Cert.Kvq

open Cert.Mlp (nrm)

/-- A sequence's normalised rows, for the keys and values, against a column of the shared projection. -/
def proj (x0 : Cert.Kernel3Ideal.S16x1024.Idx → EReal) (x1 : Cert.Kernel3Ideal.S8x2048x1024.Idx → EReal) (x2 : Cert.Kernel3Ideal.S1024.Idx → EReal)
    (x4 : Cert.Kernel3Ideal.S1024x2064.Idx → EReal) (b : Fin 8) (n : Fin 2064) (j : Fin 2064) : EReal :=
  ∑ l : Fin 1024, nrm (seq (fun r k => x0 (ix2 r k)) (fun r k => x1 (ix3 b r k)) n) (fun k => x2 (ix1 k)) l * x4 (ix2 l j)

/-- The keys: each head's features over their root mean square, times the gain. -/
def kt (x0 : Cert.Kernel3Ideal.S16x1024.Idx → EReal) (x1 : Cert.Kernel3Ideal.S8x2048x1024.Idx → EReal) (x2 : Cert.Kernel3Ideal.S1024.Idx → EReal)
    (x4 : Cert.Kernel3Ideal.S1024x2064.Idx → EReal) (x7 : Cert.Kernel3Ideal.S64.Idx → EReal) (i : Cert.Kernel3Ideal.S8x16x64x2064.Idx) : EReal :=
  head (fun e => proj x0 x1 x2 x4 (i 0) (i 3) ⟨(i 1).val * 64 + e.val, by have : (i 1).val < 16 := (i 1).isLt; omega⟩) (fun e => x7 (ix1 e)) (i 2)

/-- The values. -/
def vt (x0 : Cert.Kernel3Ideal.S16x1024.Idx → EReal) (x1 : Cert.Kernel3Ideal.S8x2048x1024.Idx → EReal) (x2 : Cert.Kernel3Ideal.S1024.Idx → EReal)
    (x4 : Cert.Kernel3Ideal.S1024x2064.Idx → EReal) (i : Cert.Kernel3Ideal.S8x16x64x2064.Idx) : EReal :=
  proj x0 x1 x2 x4 (i 0) (i 3) ⟨1024 + ((i 1).val * 64 + (i 2).val), by have : (i 1).val < 16 := (i 1).isLt; have : (i 2).val < 64 := (i 2).isLt; omega⟩

/-- The forget gate's logarithm. -/
def lft (x0 : Cert.Kernel3Ideal.S16x1024.Idx → EReal) (x1 : Cert.Kernel3Ideal.S8x2048x1024.Idx → EReal) (x2 : Cert.Kernel3Ideal.S1024.Idx → EReal)
    (x4 : Cert.Kernel3Ideal.S1024x2064.Idx → EReal) (x5 : Cert.Kernel3Ideal.S16.Idx → EReal) (i : Cert.Kernel3Ideal.S8x16x2064.Idx) : EReal :=
  logsig (proj x0 x1 x2 x4 (i 0) (i 2) ⟨2048 + (i 1).val, by have : (i 1).val < 16 := (i 1).isLt; omega⟩ + x5 (ix1 (i 1)))

/-- The queries, scaled to powers of two. -/
def qt (x1 : Cert.Kernel3Ideal.S8x2048x1024.Idx → EReal) (x3 : Cert.Kernel3Ideal.S1024.Idx → EReal)
    (x6 : Cert.Kernel3Ideal.S1024x1024.Idx → EReal) (x8 : Cert.Kernel3Ideal.S64.Idx → EReal) (i : Cert.Kernel3Ideal.S8x16x64x2048.Idx) : EReal :=
  head (fun e => ∑ l : Fin 1024, nrm (fun k => x1 (ix3 (i 0) (i 3) k)) (fun k => x3 (ix1 k)) l
      * x6 (ix2 l ⟨(i 1).val * 64 + e.val, by have : (i 1).val < 16 := (i 1).isLt; omega⟩)) (fun e => x8 (ix1 e)) (i 2)
    * (((8 * (Real.log 2))⁻¹ : ℝ) : EReal)

end Cert.Kvq

namespace Cert.Kernel3Ideal.Kvq

open Cert.Kernel3Ideal Cert.Kernel3Ideal.Gen Cert.Kvq
open Cert.Mlp (nrm)

variable (m : (ℓ : Loc nD τ sig) → Buf (Elt Ideal) ℓ) (ρ : Dev nD → PrngReg)

/-- Which block every window holds at a grid point: the sequence is the point over four, the group of heads the rest. -/
theorem idx : ∀ t : Fin cfg0.N, win0_0.index t = ![0, 0] ∧ win0_1.index t = ![t.val / 4, 0, 0] ∧ win0_2.index t = ![0, 0] ∧ win0_3.index t = ![0, 0]
    ∧ win0_4.index t = ![t.val % 4, 0] ∧ win0_5.index t = ![t.val % 4, 0] ∧ win0_6.index t = ![0, 0] ∧ win0_7.index t = ![0, 0]
    ∧ win0_8.index t = ![t.val % 4, 0] ∧ win0_9.index t = ![0, 0] ∧ win0_10.index t = ![0, 0]
    ∧ win0_11.index t = ![t.val / 4, t.val % 4, 0, 0] ∧ win0_12.index t = ![t.val / 4, t.val % 4, 0, 0] ∧ win0_13.index t = ![t.val / 4, 0, 0]
    ∧ win0_14.index t = ![t.val / 4, t.val % 4, 0, 0] :=
  (by decide +kernel : ∀ t : Fin grid0.N, _)

/-- The blocks at a grid point's sequence's first point, of the windows that move with the sequence alone. -/
theorem iblk_base (c : Dev nD) (t : Fin cfg0.N) : iblk m c 0 (base t) = iblk m c 0 t ∧ iblk m c 1 (base t) = iblk m c 1 t
    ∧ iblk m c 2 (base t) = iblk m c 2 t ∧ iblk m c 3 (base t) = iblk m c 3 t ∧ iblk m c 6 (base t) = iblk m c 6 t ∧ iblk m c 7 (base t) = iblk m c 7 t := by
  have h : (base t).val / 4 = t.val / 4 := by simp only [base]; omega
  refine ⟨?_, ?_, ?_, ?_, ?_, ?_⟩ <;> funext y <;> idx_vars y <;> blk_point [iblk, V, idx t, idx (base t), h]

theorem point_lt (t : Fin cfg0.N) : t.val / 4 < 8 ∧ t.val % 4 < 4 :=
  (by decide +kernel : ∀ t : Fin grid0.N, t.val / 4 < 8 ∧ t.val % 4 < 4) t

/-- The leading rows, whole. -/
theorem blk0 (c : Dev nD) (t : Fin cfg0.N) (r : Fin 16) (l : Fin 1024) : (show S16x1024.Idx → EReal from iblk m c 0 t) (ix2 r l)
    = (show S16x1024.Idx → EReal from m ((c : Thread nD τ).loc main_arg0)) (ix2 r l) := by
  blk_point [iblk, V, idx t]

/-- A point's token rows are its sequence's. -/
theorem blk1 (c : Dev nD) (t : Fin cfg0.N) (r : Fin 2048) (l : Fin 1024) : (show S1x2048x1024.Idx → EReal from iblk m c 1 t) (ix3 0 r l)
    = (show S8x2048x1024.Idx → EReal from m ((c : Thread nD τ).loc main_arg1)) (ix3 ⟨t.val / 4, (point_lt t).1⟩ r l) := by
  blk_point [iblk, V, idx t]

/-- A gain. -/
theorem blk2 (c : Dev nD) (t : Fin cfg0.N) (l : Fin 1024) : (show S1x1024.Idx → EReal from iblk m c 2 t) (ix2 0 l)
    = (show S1024.Idx → EReal from m ((c : Thread nD τ).loc main_arg2)) (ix1 l) := by
  blk_point [iblk, V, idx t]

/-- A gain. -/
theorem blk3 (c : Dev nD) (t : Fin cfg0.N) (l : Fin 1024) : (show S1x1024.Idx → EReal from iblk m c 3 t) (ix2 0 l)
    = (show S1024.Idx → EReal from m ((c : Thread nD τ).loc main_arg3)) (ix1 l) := by
  blk_point [iblk, V, idx t]

/-- The columns of the projection for the keys of a group of heads. -/
theorem blk4 (c : Dev nD) (t : Fin cfg0.N) (j : Fin 256) (l : Fin 1024) : (show S256x1024.Idx → EReal from iblk m c 4 t) (ix2 j l)
    = (show S1024x2064.Idx → EReal from m ((c : Thread nD τ).loc main_arg4)) (ix2 l ⟨256 * (t.val % 4) + j.val, by have := (point_lt t).2; omega⟩) := by
  blk_point [iblk, V, idx t]

/-- Those for the values. -/
theorem blk5 (c : Dev nD) (t : Fin cfg0.N) (j : Fin 256) (l : Fin 1024) : (show S256x1024.Idx → EReal from iblk m c 5 t) (ix2 j l)
    = (show S1024x2064.Idx → EReal from m ((c : Thread nD τ).loc main_arg4)) (ix2 l ⟨1024 + (256 * (t.val % 4) + j.val), by have := (point_lt t).2; omega⟩) := by
  blk_point [iblk, V, idx t]

/-- Those for the gates. -/
theorem blk6 (c : Dev nD) (t : Fin cfg0.N) (j : Fin 16) (l : Fin 1024) : (show S16x1024.Idx → EReal from iblk m c 6 t) (ix2 j l)
    = (show S1024x2064.Idx → EReal from m ((c : Thread nD τ).loc main_arg4)) (ix2 l ⟨2048 + j.val, by omega⟩) := by
  blk_point [iblk, V, idx t]

/-- The gate's offset. -/
theorem blk7 (c : Dev nD) (t : Fin cfg0.N) (j : Fin 16) : (show S16x1.Idx → EReal from iblk m c 7 t) (ix2 j 0)
    = (show S16.Idx → EReal from m ((c : Thread nD τ).loc main_arg5)) (ix1 j) := by
  blk_point [iblk, V, idx t]

/-- The columns of the queries' projection for a group of heads. -/
theorem blk8 (c : Dev nD) (t : Fin cfg0.N) (j : Fin 256) (l : Fin 1024) : (show S256x1024.Idx → EReal from iblk m c 8 t) (ix2 j l)
    = (show S1024x1024.Idx → EReal from m ((c : Thread nD τ).loc main_arg6)) (ix2 l ⟨256 * (t.val % 4) + j.val, by have := (point_lt t).2; omega⟩) := by
  blk_point [iblk, V, idx t]

/-- A head's gain. -/
theorem blk9 (c : Dev nD) (t : Fin cfg0.N) (d : Fin 64) : (show S64x1.Idx → EReal from iblk m c 9 t) (ix2 d 0)
    = (show S64.Idx → EReal from m ((c : Thread nD τ).loc main_arg7)) (ix1 d) := by
  blk_point [iblk, V, idx t]

/-- A head's gain. -/
theorem blk10 (c : Dev nD) (t : Fin cfg0.N) (d : Fin 64) : (show S64x1.Idx → EReal from iblk m c 10 t) (ix2 d 0)
    = (show S64.Idx → EReal from m ((c : Thread nD τ).loc main_arg8)) (ix1 d) := by
  blk_point [iblk, V, idx t]

/-- Where an index of a point's block lies in the array. -/
theorem emb11 (G : S8x16x64x2064.Idx → EReal) (t : Fin cfg0.N) (h : Fin 4) (d : Fin 64) (n : Fin 2064) :
    G (((View.whole main_v12_0).slice (win0_11.rect t)).emb (ix4 0 h d n)) = G (ix4 ⟨t.val / 4, (point_lt t).1⟩ ⟨4 * (t.val % 4) + h.val, by have := (point_lt t).2; omega⟩ d n) := by
  blk_point [idx t]

/-- Where an index of a point's block lies in the array. -/
theorem emb12 (G : S8x16x64x2064.Idx → EReal) (t : Fin cfg0.N) (h : Fin 4) (d : Fin 64) (n : Fin 2064) :
    G (((View.whole main_v12_1).slice (win0_12.rect t)).emb (ix4 0 h d n)) = G (ix4 ⟨t.val / 4, (point_lt t).1⟩ ⟨4 * (t.val % 4) + h.val, by have := (point_lt t).2; omega⟩ d n) := by
  blk_point [idx t]

/-- Where an index of a point's block lies in the array. -/
theorem emb14 (G : S8x16x64x2048.Idx → EReal) (t : Fin cfg0.N) (h : Fin 4) (d : Fin 64) (n : Fin 2048) :
    G (((View.whole main_v12_3).slice (win0_14.rect t)).emb (ix4 0 h d n)) = G (ix4 ⟨t.val / 4, (point_lt t).1⟩ ⟨4 * (t.val % 4) + h.val, by have := (point_lt t).2; omega⟩ d n) := by
  blk_point [idx t]

/-- Where an index of a point's gate block lies in the array. -/
theorem emb13 (G : S8x16x2064.Idx → EReal) (t : Fin cfg0.N) (h : Fin 16) (n : Fin 2064) :
    G (((View.whole main_v12_2).slice (win0_13.rect t)).emb (ix3 0 h n)) = G (ix3 ⟨t.val / 4, (point_lt t).1⟩ h n) := by
  blk_point [idx t]

/-- A point's key and value rows are those of its sequence. -/
theorem kv_row (c : Dev nD) (t : Fin cfg0.N) (n : Fin 2064) (l : Fin 1024) :
    kvBuf (iblk m c 0 t) (iblk m c 1 t) (iblk m c 2 t) (ix2 n l)
      = nrm (seq (fun r k => (m ((c : Thread nD τ).loc main_arg0) : S16x1024.Idx → EReal) (ix2 r k))
          (fun r k => (m ((c : Thread nD τ).loc main_arg1) : S8x2048x1024.Idx → EReal) (ix3 ⟨t.val / 4, (point_lt t).1⟩ r k)) n)
        (fun k => (m ((c : Thread nD τ).loc main_arg2) : S1024.Idx → EReal) (ix1 k)) l :=
  (kvBuf_apply _ _ _ n l).trans (congr (congr (congrArg nrm (congr (congr (congrArg seq
    (funext fun r => funext fun k => blk0 m c t r k)) (funext fun r => funext fun k => blk1 m c t r k)) rfl)) (funext fun k => blk2 m c t k)) rfl)

/-- A point's query rows are those of its sequence. -/
theorem q_row (c : Dev nD) (t : Fin cfg0.N) (n : Fin 2048) (l : Fin 1024) :
    qBuf (iblk m c 1 t) (iblk m c 3 t) (ix2 n l)
      = nrm (fun k => (m ((c : Thread nD τ).loc main_arg1) : S8x2048x1024.Idx → EReal) (ix3 ⟨t.val / 4, (point_lt t).1⟩ n k))
        (fun k => (m ((c : Thread nD τ).loc main_arg3) : S1024.Idx → EReal) (ix1 k)) l :=
  (qBuf_apply _ _ n l).trans (congr (congr (congrArg nrm (funext fun k => blk1 m c t n k)) (funext fun k => blk3 m c t k)) rfl)

/-- After the run the first result array holds the keys. -/
theorem final_kt (c : Dev nD) : (dats m 0 c).arrAt 11 cfg0.N
    = kt (m ((c : Thread nD τ).loc main_arg0)) (m ((c : Thread nD τ).loc main_arg1)) (m ((c : Thread nD τ).loc main_arg2)) (m ((c : Thread nD τ).loc main_arg4)) (m ((c : Thread nD τ).loc main_arg7)) := by
  refine (dats m 0 c).arrAt_eq_of_covers 11 _ (by decide +kernel) fun t hf y => ?_
  blk_simp
  rw [after0_11]
  idx_vars y
  obtain rfl : y0 = 0 := Subsingleton.elim _ _
  obtain ⟨h0, h1, h2, h3, h6, h7⟩ := iblk_base m c t
  refine Eq.trans ?_ (emb11 _ t y1 y2 y3).symm
  unfold ktAt kvAt
  rw [h0, h1, h2]
  refine (pay8_apply _ _ _ y1 y2 y3).trans ?_
  unfold kt proj
  refine congr (congr (congrArg head (funext fun e => Finset.sum_congr rfl fun l _ => ?_)) (funext fun e => blk9 m c t e)) rfl
  refine congr (congrArg _ (kv_row m c t y3 l)) ((blk4 m c t _ l).trans ?_)
  refine congrArg (fun j => (m ((c : Thread nD τ).loc main_arg4) : S1024x2064.Idx → EReal) (ix2 l j)) (Fin.ext ?_)
  show 256 * (t.val % 4) + (y1.val * 64 + e.val) = (4 * (t.val % 4) + y1.val) * 64 + e.val
  omega

/-- The second result array holds the values. -/
theorem final_vt (c : Dev nD) : (dats m 0 c).arrAt 12 cfg0.N
    = vt (m ((c : Thread nD τ).loc main_arg0)) (m ((c : Thread nD τ).loc main_arg1)) (m ((c : Thread nD τ).loc main_arg2)) (m ((c : Thread nD τ).loc main_arg4)) := by
  refine (dats m 0 c).arrAt_eq_of_covers 12 _ (by decide +kernel) fun t hf y => ?_
  blk_simp
  rw [after0_12]
  idx_vars y
  obtain rfl : y0 = 0 := Subsingleton.elim _ _
  obtain ⟨h0, h1, h2, h3, h6, h7⟩ := iblk_base m c t
  refine Eq.trans ?_ (emb12 _ t y1 y2 y3).symm
  unfold vtAt kvAt
  rw [h0, h1, h2]
  refine (pay9_apply _ _ y1 y2 y3).trans ?_
  unfold vt proj
  refine Finset.sum_congr rfl fun l _ => ?_
  refine congr (congrArg _ (kv_row m c t y3 l)) ((blk5 m c t _ l).trans ?_)
  refine congrArg (fun j => (m ((c : Thread nD τ).loc main_arg4) : S1024x2064.Idx → EReal) (ix2 l j)) (Fin.ext ?_)
  show 1024 + (256 * (t.val % 4) + (y1.val * 64 + y2.val)) = 1024 + ((4 * (t.val % 4) + y1.val) * 64 + y2.val)
  omega

/-- The third result array holds the logarithm of the forget gate. -/
theorem final_lft (c : Dev nD) : (dats m 0 c).arrAt 13 cfg0.N
    = lft (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 13 _ (by decide +kernel) fun t hf y => ?_
  blk_simp
  rw [after0_13]
  idx_vars y
  obtain rfl : y0 = 0 := Subsingleton.elim _ _
  obtain ⟨h0, h1, h2, h3, h6, h7⟩ := iblk_base m c t
  refine Eq.trans ?_ (emb13 _ t y1 y2).symm
  unfold lftAt kvAt
  rw [h0, h1, h2, h6, h7]
  refine (pay7_apply _ _ _ y1 y2).trans ?_
  unfold lft proj
  refine congrArg logsig (congr (congrArg _ (Finset.sum_congr rfl fun l _ => ?_)) (blk7 m c t y1))
  exact congr (congrArg _ (kv_row m c t y2 l)) (blk6 m c t y1 l)

/-- The fourth result array holds the queries. -/
theorem final_qt (c : Dev nD) : (dats m 0 c).arrAt 14 cfg0.N
    = qt (m ((c : Thread nD τ).loc main_arg1)) (m ((c : Thread nD τ).loc main_arg3)) (m ((c : Thread nD τ).loc main_arg6)) (m ((c : Thread nD τ).loc main_arg8)) := by
  refine (dats m 0 c).arrAt_eq_of_covers 14 _ (by decide +kernel) fun t hf y => ?_
  blk_simp
  rw [after0_14]
  idx_vars y
  obtain rfl : y0 = 0 := Subsingleton.elim _ _
  obtain ⟨h0, h1, h2, h3, h6, h7⟩ := iblk_base m c t
  refine Eq.trans ?_ (emb14 _ t y1 y2 y3).symm
  unfold qtAt qAt
  rw [h1, h3]
  refine (pay1_apply _ _ _ y1 y2 y3).trans ?_
  unfold qt
  refine congrArg (fun x : EReal => x * (((8 * (Real.log 2))⁻¹ : ℝ) : EReal)) ?_
  refine congr (congr (congrArg head (funext fun e => Finset.sum_congr rfl fun l _ => ?_)) (funext fun e => blk10 m c t e)) rfl
  refine congr (congrArg _ (q_row m c t y3 l)) ((blk8 m c t _ l).trans ?_)
  refine congrArg (fun j => (m ((c : Thread nD τ).loc main_arg6) : S1024x1024.Idx → EReal) (ix2 l j)) (Fin.ext ?_)
  show 256 * (t.val % 4) + (y1.val * 64 + e.val) = (4 * (t.val % 4) + y1.val) * 64 + e.val
  omega

end Cert.Kernel3Ideal.Kvq

end
-- ==== Proof.KvqNum.lean ====
/- The key, value and query call: the two equations between numbers that the programs' results rest on. -/
module

public import proofs.«01_k».proof.Proof.KvqVal
public import proofs.«01_k».proof.Proof.AttnRef

@[expose] public section

noncomputable section

open Idealize.ShloMosaic

namespace Cert.Kvq

theorem log1p_zero : Ideal.log1p 0 = 0 := by
  unfold Ideal.log1p
  rw [add_zero, ← EReal.coe_one, Ideal.log_coe, if_neg (by norm_num), Real.log_one, EReal.coe_zero]

/-- The logarithm of a sigmoid is minus the softplus of minus its argument, at the infinities too. -/
theorem logsig_eq (x : EReal) : -(max (-x) 0 + Ideal.log1p (Ideal.exp (-(max (-x) (-(-x)))))) = logsig x := by
  unfold logsig
  rw [neg_neg, zero_sub, max_comm (-x) x]
  induction x with
  | bot => simp [log1p_zero]
  | top => simp [log1p_zero]
  | coe x =>
    have hM : ∀ a b : ℝ, ((max a b : ℝ) : EReal) = max (a : EReal) b := fun a b => EReal.coe_strictMono.monotone.map_max
    have hm : ∀ a b : ℝ, ((min a b : ℝ) : EReal) = min (a : EReal) b := fun a b => EReal.coe_strictMono.monotone.map_min
    have hp : 0 < Real.exp (-(max x (-x))) := Real.exp_pos _
    have hL : Ideal.log1p (Ideal.exp (-(max (x : EReal) (-x)))) = ((Real.log (1 + Real.exp (-(max x (-x)))) : ℝ) : EReal) := by
      unfold Ideal.log1p
      rw [← EReal.coe_neg, ← hM, ← EReal.coe_neg, Ideal.exp_coe, ← EReal.coe_one, ← EReal.coe_add, Ideal.log_coe, if_neg (by linarith)]
    rw [hL, ← EReal.coe_neg, ← EReal.coe_zero, ← hM, ← hm, ← EReal.coe_add, ← EReal.coe_neg, ← EReal.coe_sub]
    congr 1
    rcases le_total x 0 with h | h
    · rw [max_eq_left (by linarith), min_eq_left h]; ring
    · rw [max_eq_right (by linarith), min_eq_right h]; ring

/-- An eighth over log 2 is the reciprocal of eight times log 2. -/
theorem qscale_eq : Ideal.div (Ideal.ofBits .f32 0x3E000000#32) (Ideal.log (Ideal.ofBits .f32 0x40000000#32)) = (((8 * (Real.log 2))⁻¹ : ℝ) : EReal) := by
  have hL : (0 : ℝ) < Real.log 2 := Real.log_pos (by norm_num)
  rw [Cert.ReferenceIdeal.Attn.eighth, Cert.ReferenceIdeal.Attn.two, Ideal.log_coe, if_neg (by norm_num), Ideal.div_coe hL.ne', ← EReal.coe_mul]
  congr 1
  rw [mul_inv]
  ring

end Cert.Kvq

end
-- ==== Proof.KvqRef.lean ====
/- The key, value and query call: the reference's four results are the same formulas of its arguments. -/
module

public import proofs.«01_k».proof.Proof.KvqMain
public import proofs.«01_k».proof.Proof.KvqNum
public import proofs.«01_k».proof.Proof.Gen.Reference3Ideal.Read
public import proofs.«01_k».proof.Proof.Gen.Reference3Ideal.Run

@[expose] public section

set_option maxRecDepth 16384

noncomputable section

open Idealize.ShloMosaic Idealize.ShloMosaic.TcCoe Idealize.SL.Sem
open scoped BigOperators

namespace Cert.Reference3Ideal.Row

open Cert.Reference3Ideal Cert.Reference3Ideal.Gen Cert.Reference3Ideal.Read Cert.Kvq
open Cert.Mlp (nrm)

variable (x0 : (⟨S16x1024, .f32⟩ : BufTy).Contents (Elt Ideal)) (x1 : (⟨S8x2048x1024, .f32⟩ : BufTy).Contents (Elt Ideal))
  (x2 x3 : (⟨S1024, .f32⟩ : BufTy).Contents (Elt Ideal)) (x4 : (⟨S1024x2064, .f32⟩ : BufTy).Contents (Elt Ideal))
  (x5 : (⟨S16, .f32⟩ : BufTy).Contents (Elt Ideal)) (x6 : (⟨S1024x1024, .f32⟩ : BufTy).Contents (Elt Ideal))
  (x7 x8 : (⟨S64, .f32⟩ : BufTy).Contents (Elt Ideal))

/-- The leading rows before a batch's token rows. -/
theorem v2_apply (b : Fin 8) (n : Fin 2064) (l : Fin 1024) :
    val_main_v2 (F := Ideal) x0 x1 (ix3 b n l) = seq (fun r k => x0 (ix2 r k)) (fun r k => x1 (ix3 b r k)) n l := by
  pointwise [val_main_v2, val_main_v1, val_main_v0, seq]

/-- The normalised rows for the keys and values. -/
theorem v15_apply (b : Fin 8) (n : Fin 2064) (l : Fin 1024) :
    val_main_v15 (F := Ideal) x0 x1 x2 (ix3 b n l) = nrm (fun k => val_main_v2 (F := Ideal) x0 x1 (ix3 b n k)) (fun k => x2 (ix1 k)) l := by
  unfold val_main_v15 val_main_v12 val_main_v11 val_main_v10 val_main_v9 val_main_v7 val_main_v5 val_main_v4 val_main_v3
  generalize val_main_v2 (F := Ideal) x0 x1 = x
  pointwise [nrm, val_main_v14, val_main_v13, val_main_v8, val_main_v6, val_main_cst, val_main_cst_0, val_main_cst_1]

/-- Their projection. -/
theorem v16_apply (b : Fin 8) (n j : Fin 2064) : val_main_v16 (F := Ideal) x0 x1 x2 x4 (ix3 b n j) = proj x0 x1 x2 x4 b n j := by
  unfold val_main_v16 proj
  have h := v15_apply x0 x1 x2
  have h' := v2_apply x0 x1
  generalize val_main_v15 (F := Ideal) x0 x1 x2 = x at *
  generalize val_main_v2 (F := Ideal) x0 x1 = z at *
  pointwise
  simp only [h, h']

/-- The keys' columns, split into heads. -/
theorem v18_apply (b : Fin 8) (n : Fin 2064) (h : Fin 16) (d : Fin 64) : val_main_v18 (F := Ideal) x0 x1 x2 x4 (ix4 b n h d)
    = val_main_v16 (F := Ideal) x0 x1 x2 x4 (ix3 b n ⟨h.val * 64 + d.val, by omega⟩) := by
  rw [val_main_v18_apply, val_main_v17_apply]
  generalize val_main_v16 (F := Ideal) x0 x1 x2 x4 = x
  refine congrArg x (funext fun a => ?_)
  match a with
  | ⟨0, _⟩ => exact Fin.ext (show (((b.val * 2064 + n.val) * 16 + h.val) * 64 + d.val) / 2113536 = b.val by omega)
  | ⟨1, _⟩ => exact Fin.ext (show (((b.val * 2064 + n.val) * 16 + h.val) * 64 + d.val) / 1024 % 2064 = n.val by omega)
  | ⟨2, _⟩ => exact Fin.ext (show (((b.val * 2064 + n.val) * 16 + h.val) * 64 + d.val) % 1024 = h.val * 64 + d.val by omega)

/-- The keys' mean square, with its constant. -/
theorem v25_apply (b : Fin 8) (n : Fin 2064) (h : Fin 16) :
    val_main_v25 (F := Ideal) x0 x1 x2 x4 (ix4 b n h 0)
      = Ideal.div (∑ e : Fin 64, val_main_v18 (F := Ideal) x0 x1 x2 x4 (ix4 b n h e) * val_main_v18 (F := Ideal) x0 x1 x2 x4 (ix4 b n h e))
          (Ideal.ofBits .f32 0x42800000#32) + Ideal.ofBits .f32 0x358637BD#32 := by
  have e (k : Fin 64) : idx_main_v20 (idx_main_v21 (ix4 b n h 0)) k = ix4 b n h k := funext fun a => by
    match a with
    | ⟨0, _⟩ => rfl
    | ⟨1, _⟩ => rfl
    | ⟨2, _⟩ => rfl
    | ⟨3, _⟩ => rfl
  have z : val_main_cst_2 (F := Ideal) (Shape.Idx.first h_S_) = 0 := by
    show Ideal.ofBits .f32 0x00000000#32 = 0
    simp [Ideal.ofBits, Ideal.ieee]
  rw [val_main_v25_apply, val_main_v23_apply, val_main_v21_apply, val_main_v20_apply, val_main_v22_apply, val_main_v24_apply, z, zero_add, val_main_cst_3_apply, val_main_cst_4_apply]
  refine congrArg (fun y => Ideal.div y _ + _) (Finset.sum_congr rfl fun k _ => ?_)
  rw [e, val_main_v19_apply]
  rfl

/-- The keys' heads. -/
theorem v31_apply (b : Fin 8) (n : Fin 2064) (h : Fin 16) (d : Fin 64) :
    val_main_v31 (F := Ideal) x0 x1 x2 x4 x7 (ix4 b n h d)
      = head (fun e => val_main_v18 (F := Ideal) x0 x1 x2 x4 (ix4 b n h e)) (fun e => x7 (ix1 e)) d := by
  have e : idx_main_v27 (ix4 b n h d) = ix4 b n h 0 := funext fun a => by
    match a with
    | ⟨0, _⟩ => rfl
    | ⟨1, _⟩ => rfl
    | ⟨2, _⟩ => rfl
    | ⟨3, _⟩ => rfl
  have g : idx_main_v29 (idx_main_v30 (ix4 b n h d)) = ix1 d := funext fun a => by
    match a with
    | ⟨0, _⟩ => rfl
  rw [val_main_v31_apply, val_main_v28_apply, val_main_v27_apply, val_main_v26_apply, val_main_v30_apply, val_main_v29_apply, e, g, v25_apply]
  generalize val_main_v18 (F := Ideal) x0 x1 x2 x4 = x
  rfl

/-- The returned keys. -/
theorem v73_eq : val_main_v73 (F := Ideal) x0 x1 x2 x4 x7 = kt x0 x1 x2 x4 x7 := by
  funext i
  idx_vars i
  unfold val_main_v73 kt
  have h := v31_apply x0 x1 x2 x4 x7
  generalize val_main_v31 (F := Ideal) x0 x1 x2 x4 x7 = x at *
  pointwise
  simp only [h, v18_apply, v16_apply]

/-- The returned values. -/
theorem v74_eq : val_main_v74 (F := Ideal) x0 x1 x2 x4 = vt x0 x1 x2 x4 := by
  funext i
  idx_vars i
  unfold val_main_v74 val_main_v33 val_main_v32 vt
  have h' := v16_apply x0 x1 x2 x4
  generalize val_main_v16 (F := Ideal) x0 x1 x2 x4 = z at *
  pointwise
  simp only [h']

/-- The returned log forget gates. -/
theorem v75_eq : val_main_v75 (F := Ideal) x0 x1 x2 x4 x5 = lft x0 x1 x2 x4 x5 := by
  funext i
  idx_vars i
  unfold val_main_v75 val_main_v38 val_main_call0_v1 val_main_call0_call0_v11 val_main_call0_call0_v10 val_main_call0_call0_v9
    val_main_call0_call0_v8 val_main_call0_call0_v7 val_main_call0_call0_v6 val_main_call0_call0_v4 val_main_call0_call0_v3
    val_main_call0_call0_v1 val_main_call0_v0 val_main_v37 val_main_v34 lft
  have h' := v16_apply x0 x1 x2 x4
  generalize val_main_v16 (F := Ideal) x0 x1 x2 x4 = z at *
  pointwise [val_main_v36, val_main_v35, val_main_call0_call0_v5, val_main_call0_call0_v2, val_main_call0_call0_v0, val_main_call0_call0_cst]
  simp only [h', sub_zero, ne_eq, not_true_eq_false, if_false]
  exact logsig_eq _

/-- The normalised rows for the queries. -/
theorem v51_apply (b : Fin 8) (n : Fin 2048) (l : Fin 1024) :
    val_main_v51 (F := Ideal) x1 x3 (ix3 b n l) = nrm (fun k => x1 (ix3 b n k)) (fun k => x3 (ix1 k)) l := by
  unfold val_main_v51 val_main_v48 val_main_v47 val_main_v46 val_main_v45 val_main_v43 val_main_v41 val_main_v40 val_main_v39
  pointwise [nrm, val_main_v50, val_main_v49, val_main_v44, val_main_v42, val_main_cst_5, val_main_cst_6, val_main_cst_7]

/-- The queries' heads. -/
theorem v66_apply (b : Fin 8) (n : Fin 2048) (h : Fin 16) (d : Fin 64) :
    val_main_v66 (F := Ideal) x1 x3 x6 x8 (ix4 b n h d)
      = head (fun e => val_main_v52 (F := Ideal) x1 x3 x6 (ix3 b n ⟨h.val * 64 + e.val, by omega⟩)) (fun e => x8 (ix1 e)) d := by
  unfold val_main_v66 val_main_v63 val_main_v62 val_main_v61 val_main_v60 val_main_v58 val_main_v56 val_main_v55 val_main_v54 val_main_v53
  generalize val_main_v52 (F := Ideal) x1 x3 x6 = x
  pointwise [head, val_main_v65, val_main_v64, val_main_v59, val_main_v57, val_main_cst_8, val_main_cst_9, val_main_cst_10]

/-- The queries' projection. -/
theorem v52_apply (b : Fin 8) (n : Fin 2048) (j : Fin 1024) : val_main_v52 (F := Ideal) x1 x3 x6 (ix3 b n j)
    = ∑ l : Fin 1024, nrm (fun k => x1 (ix3 b n k)) (fun k => x3 (ix1 k)) l * x6 (ix2 l j) := by
  unfold val_main_v52
  have h := v51_apply x1 x3
  generalize val_main_v51 (F := Ideal) x1 x3 = x at *
  pointwise
  simp only [h]

/-- The returned queries. -/
theorem v76_eq : val_main_v76 (F := Ideal) x1 x3 x6 x8 = qt x1 x3 x6 x8 := by
  funext i
  idx_vars i
  unfold val_main_v76 val_main_v72 val_main_v71 qt
  have h := v66_apply x1 x3 x6 x8
  have h' := v52_apply x1 x3 x6
  generalize val_main_v66 (F := Ideal) x1 x3 x6 x8 = x at *
  generalize val_main_v52 (F := Ideal) x1 x3 x6 = z at *
  pointwise [val_main_v70, val_main_v69, val_main_v68, val_main_v67, val_main_cst_11, val_main_cst_12]
  simp only [h, h']
  exact congrArg (fun y : EReal => _ * y) qscale_eq

end Cert.Reference3Ideal.Row

end
-- ==== Proof.Qkv.lean ====
/- The key, value and query call: its frames, its named constant, and its four results against the reference's. -/
module

public import proofs.«01_k».proof.Defs
public import proofs.«01_k».proof.Proof.KvqBFrame
public import proofs.«01_k».proof.Proof.KvqRef

@[expose] public section

set_option maxRecDepth 16384

noncomputable section

open Idealize.ShloMosaic Idealize.ShloMosaic.TcCoe Idealize.SL.Sem

namespace Cert.Proof

/-- The key, value and query kernel, as printed, runs to the end and leaves its arguments alone. -/
theorem frame_p3 : Cert.quiescent_Kernel3 := fun m ρ _ => Cert.Kernel3.Kvq.quiet m ρ
/-- So does its idealization. -/
theorem frame_pi3 : Cert.quiescent_Kernel3Ideal := fun m ρ _ => Cert.Kernel3Ideal.Kvq.quiet m ρ
/-- So does its reference. -/
theorem frame_ri3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The queries' scale stands for `(8 * log 2)⁻¹`. -/
theorem preserves3 : Cert.preserves_Kernel3_Kernel3Ideal :=
  IdealRules.named_const.statement Cert.Kernel3Ideal.κ "qscale" .f32 0x3E38AA3B#32 (((8 * (Real.log 2))⁻¹ : ℝ) : EReal) rfl

end Cert.Proof

namespace Cert.Kvq

open Cert.Kernel3Ideal Cert.Kernel3Ideal.Kvq

/-- The two programs' keys, values, log forget gates and queries are the same functions of the arguments they share. -/
theorem agree : Cert.algebraic_Kernel3Ideal_Reference3Ideal := by
  intro m ρ m' ρ' _ hag
  refine ⟨fun c => kt (m (c.tc.loc main_arg0)) (m (c.tc.loc main_arg1)) (m (c.tc.loc main_arg2)) (m (c.tc.loc main_arg4))
      (m (c.tc.loc main_arg7)),
    fun c => vt (m (c.tc.loc main_arg0)) (m (c.tc.loc main_arg1)) (m (c.tc.loc main_arg2)) (m (c.tc.loc main_arg4)),
    fun c => lft (m (c.tc.loc main_arg0)) (m (c.tc.loc main_arg1)) (m (c.tc.loc main_arg2)) (m (c.tc.loc main_arg4))
      (m (c.tc.loc main_arg5)),
    fun c => qt (m (c.tc.loc main_arg1)) (m (c.tc.loc main_arg3)) (m (c.tc.loc main_arg6)) (m (c.tc.loc main_arg8)), ?_, ?_⟩
  · exact (θ_run _ _ _).mono (fun r h c => ⟨((h.1 c).1 11).trans (final_kt m c), ((h.1 c).1 12).trans (final_vt m c),
      ((h.1 c).1 13).trans (final_lft m c), ((h.1 c).1 14).trans (final_qt m c), h.2.1 c⟩)
      (θ_run_and (run_main m ρ) (quiet m ρ))
  · refine (θ_run _ _ _).mono (fun r h c => ⟨(h c).1.trans ?_, (h c).2.1.trans ?_, (h c).2.2.1.trans ?_,
      (h c).2.2.2.1.trans ?_, (h c).2.2.2.2⟩) (Cert.Reference3Ideal.Value.run m' ρ') <;>
      obtain ⟨h0, h1, h2, h3, h4, h5, h6, h7, h8⟩ := hag c
    · rw [Cert.Reference3Ideal.Read.val_main_v73_eq, Cert.Reference3Ideal.Row.v73_eq, h0, h1, h2, h4, h7]
    · rw [Cert.Reference3Ideal.Read.val_main_v74_eq, Cert.Reference3Ideal.Row.v74_eq, h0, h1, h2, h4]
    · rw [Cert.Reference3Ideal.Read.val_main_v75_eq, Cert.Reference3Ideal.Row.v75_eq, h0, h1, h2, h4, h5]
    · rw [Cert.Reference3Ideal.Read.val_main_v76_eq, Cert.Reference3Ideal.Row.v76_eq, h1, h3, h6, h8]

end Cert.Kvq

end
-- ==== Proof.lean ====
/- The certificate's proof: the witnesses of the programs' stated facts, then one theorem per claim (Proof/Claims.lean the frames
   and the named constants, Proof/Attn.lean the attention's value, Proof/MlpRef.lean the last stage's value,
   Proof/Qkv.lean the key, value and query call). -/
module

public import proofs.«01_k».proof.Defs
public import proofs.«01_k».proof.Proof.Claims
public import proofs.«01_k».proof.Proof.Attn
public import proofs.«01_k».proof.Proof.MlpRef
public import proofs.«01_k».proof.Proof.Qkv
public import proofs.«01_k».proof.Proof.Gen.KernelIdeal.Value
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Pre_finite.Gen.facts, frame_p, frame_pi, frame_pi_finite, frame_ri, frame_ri_finite, frame_p2,
    frame_pi2, frame_ri2, frame_p3, frame_pi3, frame_ri3, preserves, Cert.Attn.agree, preserves2, Cert.Mlp.agree, preserves3,
    Cert.Kvq.agree⟩

end Cert.Proof

end
